-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S8x4096x3 : Shape := ⟨3, ![8, 4096, 3]⟩
abbrev S8x1024x3 : Shape := ⟨3, ![8, 1024, 3]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x4 : Shape := ⟨3, ![8, 4096, 4]⟩
abbrev S8x4096x4x1 : Shape := ⟨4, ![8, 4096, 4, 1]⟩
abbrev S1 : Shape := ⟨1, ![1]⟩
abbrev S1x1x1x1 : Shape := ⟨4, ![1, 1, 1, 1]⟩

class Facts : Prop where
  transposes_S8x3x4096_S8x4096x3_0_2_1 : S8x3x4096.Transposes [0, 2, 1] S8x4096x3
  transposes_S8x3x1024_S8x1024x3_0_2_1 : S8x3x1024.Transposes [0, 2, 1] S8x1024x3
  bcast_S_S8x4096x1024 : S_.BroadcastsInDim S8x4096x1024 (![] : Fin 0 → Fin S8x4096x1024.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  slices_S8x4096x1024_S8x4096x4_0_0_0 : S8x4096x1024.Slices ![0, 0, 0] S8x4096x4
  bcast_S_S8x4096x4 : S_.BroadcastsInDim S8x4096x4 (![] : Fin 0 → Fin S8x4096x4.rank)
  shapeCasts_S8x4096x4_S8x4096x4x1 : S8x4096x4.ShapeCasts S8x4096x4x1
  bcast_S_S8x4096x4x1 : S_.BroadcastsInDim S8x4096x4x1 (![] : Fin 0 → Fin S8x4096x4x1.rank)
  bcast_S1_S1x1x1x1_3 : S1.BroadcastsInDim S1x1x1x1 (![3] : Fin 1 → Fin S1x1x1x1.rank)
  bcast_S1x1x1x1_S8x4096x4x1_0_1_2_3 : S1x1x1x1.BroadcastsInDim S8x4096x4x1 (![0, 1, 2, 3] : Fin 4 → Fin S8x4096x4x1.rank)
  reducesTo_S8x4096x4x1_S8x4096x4_d3 : S8x4096x4x1.ReducesTo [3] S8x4096x4
  bcast_S_S8x3x4096 : S_.BroadcastsInDim S8x3x4096 (![] : Fin 0 → Fin S8x3x4096.rank)
  bcast_S_S8x3x1024 : S_.BroadcastsInDim S8x3x1024 (![] : Fin 0 → Fin S8x3x1024.rank)
  bcast_S_S8x256x4096 : S_.BroadcastsInDim S8x256x4096 (![] : Fin 0 → Fin S8x256x4096.rank)
  bcast_S_S8x512x1024 : S_.BroadcastsInDim S8x512x1024 (![] : Fin 0 → Fin S8x512x1024.rank)
  bcast_S_S256x768 : S_.BroadcastsInDim S256x768 (![] : Fin 0 → Fin S256x768.rank)
  bcast_S_S256 : S_.BroadcastsInDim S256 (![] : Fin 0 → Fin S256.rank)
  bcast_S_S256x256 : S_.BroadcastsInDim S256x256 (![] : Fin 0 → Fin S256x256.rank)
  slices_S8x4096x4_S8x4096x3_0_0_0 : S8x4096x4.Slices ![0, 0, 0] S8x4096x3
  slices_S8x4096x4_S8x4096x3_0_0_1 : S8x4096x4.Slices ![0, 0, 1] S8x4096x3
  dot_S8x4096x3_S8x1024x3_S8x4096x1024_2_2_1_1_0_0_wf : DotDims.WF S8x4096x3 S8x1024x3 S8x4096x1024 [2] [2] [1] [1] [0] [0]
  gather_S8x4096x1024_S8x4096x4x1_S8x4096x4_n_2_01_01_2_3_111_wf : GatherDims.WF S8x4096x1024 S8x4096x4x1 S8x4096x4 [] [2] [0, 1] [2] [0, 1] 3 ![1, 1, 1]

variable [Facts]

variable {F : FTy → Type} [FloatOps F]
def dot_S8x4096x3_S8x1024x3_S8x4096x1024_2_2_1_1_0_0 : DotDims S8x4096x3 S8x1024x3 S8x4096x1024 where
  lhsContracting := [2]
  rhsContracting := [2]
  lhsNonContracting := [1]
  rhsNonContracting := [1]
  lhsBatch := [0]
  rhsBatch := [0]
  wf := dot_S8x4096x3_S8x1024x3_S8x4096x1024_2_2_1_1_0_0_wf
def comparator_f32_i32_d2 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S8x4096x1024_S8x4096x4x1_S8x4096x4_n_2_01_01_2_3_111 : GatherDims S8x4096x1024 S8x4096x4x1 S8x4096x4 where
  offsetDims := []
  collapsedSliceDims := [2]
  operandBatchingDims := [0, 1]
  startIndicesBatchingDims := [0, 1]
  startIndexMap := [2]
  indexVectorDim := 3
  sliceSizes := ![1, 1, 1]
  wf := gather_S8x4096x1024_S8x4096x4x1_S8x4096x4_n_2_01_01_2_3_111_wf

def fn_argsort {F : FTy → Type} [FloatOps F] (arg0 : FVec F S8x4096x1024 .f32) : IVec S8x4096x1024 32 :=
  let v0 : IVec S8x4096x1024 32 := iotaInDim S8x4096x1024 32 2
  let v1_0 : FVec F S8x4096x1024 .f32 := (fun x y => (Host.sort2 S8x4096x1024 2 comparator_f32_i32_d2 x y).1) arg0 v0
  let v1_1 : IVec S8x4096x1024 32 := (fun x y => (Host.sort2 S8x4096x1024 2 comparator_f32_i32_d2 x y).2) arg0 v0
  v1_1

def fn_take_along_axis {F : FTy → Type} [FloatOps F] (arg0 : FVec F S8x4096x1024 .f32) (arg1 : IVec S8x4096x4 32) : FVec F S8x4096x4 .f32 :=
  let c : IVec S_ 32 := constantI S_ 32 0#32
  let v0 : IVec S8x4096x4 32 := broadcastInDim S8x4096x4 ![] bcast_S_S8x4096x4 c
  let v1 : IVec S8x4096x4 1 := cmpi .slt arg1 v0
  let c_0 : IVec S_ 32 := constantI S_ 32 1024#32
  let v2 : IVec S8x4096x4 32 := broadcastInDim S8x4096x4 ![] bcast_S_S8x4096x4 c_0
  let v3 : IVec S8x4096x4 32 := addi arg1 v2
  let v4 : IVec S8x4096x4 32 := select v1 v3 arg1
  let v5 : IVec S8x4096x4x1 32 := shapeCast S8x4096x4x1 v4 shapeCasts_S8x4096x4_S8x4096x4x1
  let c_1 : IVec S1 32 := constantI S1 32 1023#32
  let c_2 : IVec S_ 32 := constantI S_ 32 0#32
  let v6 : IVec S8x4096x4x1 32 := broadcastInDim S8x4096x4x1 ![] bcast_S_S8x4096x4x1 c_2
  let v7 : IVec S8x4096x4x1 1 := cmpi .sge v5 v6
  let v8 : IVec S1x1x1x1 32 := broadcastInDim S1x1x1x1 ![3] bcast_S1_S1x1x1x1_3 c_1
  let v9 : IVec S8x4096x4x1 32 := broadcastInDim S8x4096x4x1 ![0, 1, 2, 3] bcast_S1x1x1x1_S8x4096x4x1_0_1_2_3 v8
  let v10 : IVec S8x4096x4x1 1 := cmpi .sle v5 v9
  let v11 : IVec S8x4096x4x1 1 := andi v7 v10
  let c_3 : IVec S_ 1 := constantI S_ 1 1#1
  let v12 : IVec S8x4096x4 1 := (fun x v => Host.reduce IntOp.andi x v reducesTo_S8x4096x4x1_S8x4096x4_d3 h_S_) v11 c_3
  let v13 : FVec F S8x4096x4 .f32 := (fun x i => Host.gather gather_S8x4096x1024_S8x4096x4x1_S8x4096x4_n_2_01_01_2_3_111 x i) arg0 v5
  let cst : FVec F S_ .f32 := constant S_ .f32 0x7FC00000#32
  let v14 : FVec F S8x4096x4 .f32 := broadcastInDim S8x4096x4 ![] bcast_S_S8x4096x4 cst
  let v15 : FVec F S8x4096x4 .f32 := select v12 v13 v14
  v15

def fn_part2 {F : FTy → Type} [FloatOps F] (main_arg7 : FVec F S256 .f32) (main_arg8 : FVec F S256x256 .f32) (main_arg9 : FVec F S256 .f32) (main_arg10 : FVec F S256 .f32) (main_v17 : FVec F S8x4096x4 .f32) (main_v20 : IVec S8x3x4096 1) (main_v23 : IVec S8x3x1024 1) (main_v26 : IVec S8x256x4096 1) (main_v29 : IVec S8x512x1024 1) (main_v32 : IVec S256x768 1) (main_v35 : IVec S256 1) (main_v36 : FVec F S256 .f32) (main_v37 : FVec F S256 .f32) : IVec S8x4096x3 1 × IVec S8x3x4096 1 × IVec S8x3x1024 1 × IVec S8x256x4096 1 × IVec S8x512x1024 1 × IVec S256x768 1 × IVec S256 1 × IVec S256 1 × IVec S256x256 1 × IVec S256 1 × IVec S256 1 × IVec S256 1 :=
  let main_v38 : IVec S256 1 := cmpf .olt main_v36 main_v37
  let main_v39 : FVec F S256x256 .f32 := Host.absf main_arg8
  let main_cst_9 : FVec F S_ .f32 := constant S_ .f32 0x7F800000#32
  let main_v40 : FVec F S256x256 .f32 := broadcastInDim S256x256 ![] bcast_S_S256x256 main_cst_9
  let main_v41 : IVec S256x256 1 := cmpf .olt main_v39 main_v40
  let main_v42 : FVec F S256 .f32 := Host.absf main_arg9
  let main_cst_10 : FVec F S_ .f32 := constant S_ .f32 0x7F800000#32
  let main_v43 : FVec F S256 .f32 := broadcastInDim S256 ![] bcast_S_S256 main_cst_10
  let main_v44 : IVec S256 1 := cmpf .olt main_v42 main_v43
  let main_v45 : FVec F S256 .f32 := Host.absf main_arg10
  let main_cst_11 : FVec F S_ .f32 := constant S_ .f32 0x7F800000#32
  let main_v46 : FVec F S256 .f32 := broadcastInDim S256 ![] bcast_S_S256 main_cst_11
  let main_v47 : IVec S256 1 := cmpf .olt main_v45 main_v46
  let main_v48 : FVec F S8x4096x3 .f32 := (extractStridedSlice S8x4096x3 ![0, 0, 0] · slices_S8x4096x4_S8x4096x3_0_0_0) main_v17
  let main_v49 : FVec F S8x4096x3 .f32 := (extractStridedSlice S8x4096x3 ![0, 0, 1] · slices_S8x4096x4_S8x4096x3_0_0_1) main_v17
  let main_v50 : IVec S8x4096x3 1 := cmpf .olt main_v48 main_v49
  let main_cst_12 : FVec F S_ .f32 := constant S_ .f32 0x7F800000#32
  let main_v51 : FVec F S256 .f32 := broadcastInDim S256 ![] bcast_S_S256 main_cst_12
  let main_v52 : IVec S256 1 := cmpf .olt main_arg7 main_v51
  (main_v50, main_v20, main_v23, main_v26, main_v29, main_v32, main_v35, main_v38, main_v41, main_v44, main_v47, main_v52)

def fn_part1 {F : FTy → Type} [FloatOps F] (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256 .f32) (main_arg8 : FVec F S256x256 .f32) (main_arg9 : FVec F S256 .f32) (main_arg10 : FVec F S256 .f32) (main_v17 : FVec F S8x4096x4 .f32) (main_v18 : FVec F S8x3x4096 .f32) (main_v19 : FVec F S8x3x4096 .f32) : IVec S8x4096x3 1 × IVec S8x3x4096 1 × IVec S8x3x1024 1 × IVec S8x256x4096 1 × IVec S8x512x1024 1 × IVec S256x768 1 × IVec S256 1 × IVec S256 1 × IVec S256x256 1 × IVec S256 1 × IVec S256 1 × IVec S256 1 :=
  let main_v20 : IVec S8x3x4096 1 := cmpf .olt main_v18 main_v19
  let main_v21 : FVec F S8x3x1024 .f32 := Host.absf main_arg1
  let main_cst_3 : FVec F S_ .f32 := constant S_ .f32 0x7F800000#32
  let main_v22 : FVec F S8x3x1024 .f32 := broadcastInDim S8x3x1024 ![] bcast_S_S8x3x1024 main_cst_3
  let main_v23 : IVec S8x3x1024 1 := cmpf .olt main_v21 main_v22
  let main_v24 : FVec F S8x256x4096 .f32 := Host.absf main_arg2
  let main_cst_4 : FVec F S_ .f32 := constant S_ .f32 0x7F800000#32
  let main_v25 : FVec F S8x256x4096 .f32 := broadcastInDim S8x256x4096 ![] bcast_S_S8x256x4096 main_cst_4
  let main_v26 : IVec S8x256x4096 1 := cmpf .olt main_v24 main_v25
  let main_v27 : FVec F S8x512x1024 .f32 := Host.absf main_arg3
  let main_cst_5 : FVec F S_ .f32 := constant S_ .f32 0x7F800000#32
  let main_v28 : FVec F S8x512x1024 .f32 := broadcastInDim S8x512x1024 ![] bcast_S_S8x512x1024 main_cst_5
  let main_v29 : IVec S8x512x1024 1 := cmpf .olt main_v27 main_v28
  let main_v30 : FVec F S256x768 .f32 := Host.absf main_arg4
  let main_cst_6 : FVec F S_ .f32 := constant S_ .f32 0x7F800000#32
  let main_v31 : FVec F S256x768 .f32 := broadcastInDim S256x768 ![] bcast_S_S256x768 main_cst_6
  let main_v32 : IVec S256x768 1 := cmpf .olt main_v30 main_v31
  let main_v33 : FVec F S256 .f32 := Host.absf main_arg5
  let main_cst_7 : FVec F S_ .f32 := constant S_ .f32 0x7F800000#32
  let main_v34 : FVec F S256 .f32 := broadcastInDim S256 ![] bcast_S_S256 main_cst_7
  let main_v35 : IVec S256 1 := cmpf .olt main_v33 main_v34
  let main_v36 : FVec F S256 .f32 := Host.absf main_arg6
  let main_cst_8 : FVec F S_ .f32 := constant S_ .f32 0x7F800000#32
  let main_v37 : FVec F S256 .f32 := broadcastInDim S256 ![] bcast_S_S256 main_cst_8
  fn_part2 (F := F) main_arg7 main_arg8 main_arg9 main_arg10 main_v17 main_v20 main_v23 main_v26 main_v29 main_v32 main_v35 main_v36 main_v37

def fn {F : FTy → Type} [FloatOps F] (main_arg0 : FVec F S8x3x4096 .f32) (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S8x4096x3 1 × IVec S8x3x4096 1 × IVec S8x3x1024 1 × IVec S8x256x4096 1 × IVec S8x512x1024 1 × IVec S256x768 1 × IVec S256 1 × IVec S256 1 × IVec S256x256 1 × IVec S256 1 × IVec S256 1 × IVec S256 1 :=
  let main_v0 : FVec F S8x4096x3 .f32 := (transpose S8x4096x3 [0, 2, 1] · transposes_S8x3x4096_S8x4096x3_0_2_1) main_arg0
  let main_v1 : FVec F S8x1024x3 .f32 := (transpose S8x1024x3 [0, 2, 1] · transposes_S8x3x1024_S8x1024x3_0_2_1) main_arg1
  let main_v2 : FVec F S8x4096x1024 .f32 := (fun l r => Host.dotGeneral dot_S8x4096x3_S8x1024x3_S8x4096x1024_2_2_1_1_0_0 none l r) main_v0 main_v1
  let main_cst : FVec F S_ .f32 := constant S_ .f32 0xC0000000#32
  let main_v3 : FVec F S8x4096x1024 .f32 := broadcastInDim S8x4096x1024 ![] bcast_S_S8x4096x1024 main_cst
  let main_v4 : FVec F S8x4096x1024 .f32 := mulf main_v3 main_v2
  let main_v5 : FVec F S8x4096x3 .f32 := mulf main_v0 main_v0
  let main_cst_0 : FVec F S_ .f32 := constant S_ .f32 0x00000000#32
  let main_v6 : FVec F S8x4096 .f32 := (fun x v => Host.reduceAdd x v reducesTo_S8x4096x3_S8x4096_d2 h_S_) main_v5 main_cst_0
  let main_v7 : FVec F S8x4096x1 .f32 := broadcastInDim S8x4096x1 ![0, 1] bcast_S8x4096_S8x4096x1_0_1 main_v6
  let main_v8 : FVec F S8x4096x1024 .f32 := broadcastInDim S8x4096x1024 ![0, 1, 2] bcast_S8x4096x1_S8x4096x1024_0_1_2 main_v7
  let main_v9 : FVec F S8x4096x1024 .f32 := addf main_v4 main_v8
  let main_v10 : FVec F S8x1024x3 .f32 := mulf main_v1 main_v1
  let main_cst_1 : FVec F S_ .f32 := constant S_ .f32 0x00000000#32
  let main_v11 : FVec F S8x1024 .f32 := (fun x v => Host.reduceAdd x v reducesTo_S8x1024x3_S8x1024_d2 h_S_) main_v10 main_cst_1
  let main_v12 : FVec F S8x1x1024 .f32 := broadcastInDim S8x1x1024 ![0, 2] bcast_S8x1024_S8x1x1024_0_2 main_v11
  let main_v13 : FVec F S8x4096x1024 .f32 := broadcastInDim S8x4096x1024 ![0, 1, 2] bcast_S8x1x1024_S8x4096x1024_0_1_2 main_v12
  let main_v14 : FVec F S8x4096x1024 .f32 := addf main_v9 main_v13
  let main_v15 : IVec S8x4096x1024 32 := fn_argsort (F := F) main_v14
  let main_v16 : IVec S8x4096x4 32 := (extractStridedSlice S8x4096x4 ![0, 0, 0] · slices_S8x4096x1024_S8x4096x4_0_0_0) main_v15
  let main_v17 : FVec F S8x4096x4 .f32 := fn_take_along_axis (F := F) main_v14 main_v16
  let main_v18 : FVec F S8x3x4096 .f32 := Host.absf main_arg0
  let main_cst_2 : FVec F S_ .f32 := constant S_ .f32 0x7F800000#32
  let main_v19 : FVec F S8x3x4096 .f32 := broadcastInDim S8x3x4096 ![] bcast_S_S8x3x4096 main_cst_2
  fn_part1 (F := F) main_arg1 main_arg2 main_arg3 main_arg4 main_arg5 main_arg6 main_arg7 main_arg8 main_arg9 main_arg10 main_v17 main_v18 main_v19
-- ==== Kernel.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S8x4096x3 : Shape := ⟨3, ![8, 4096, 3]⟩
abbrev S2x256 : Shape := ⟨2, ![2, 256]⟩
abbrev S1x1024x3 : Shape := ⟨3, ![1, 1024, 3]⟩
abbrev S1x3x1024 : Shape := ⟨3, ![1, 3, 1024]⟩
abbrev S1x256x1024 : Shape := ⟨3, ![1, 256, 1024]⟩
abbrev S1x512x1024 : Shape := ⟨3, ![1, 512, 1024]⟩
abbrev S256x1024 : Shape := ⟨2, ![256, 1024]⟩
abbrev S256x512 : Shape := ⟨2, ![256, 512]⟩
abbrev S512x1024 : Shape := ⟨2, ![512, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S1x256 : Shape := ⟨2, ![1, 256]⟩
abbrev S_ : Shape := ⟨0, ![]⟩
abbrev S1x256x2048 : Shape := ⟨3, ![1, 256, 2048]⟩
abbrev S256x1 : Shape := ⟨2, ![256, 1]⟩
abbrev S256x2048 : Shape := ⟨2, ![256, 2048]⟩
abbrev S1x256x4096 : Shape := ⟨3, ![1, 256, 4096]⟩
abbrev S256x4096 : Shape := ⟨2, ![256, 4096]⟩

abbrev nBuf : Space → Nat
  | .hbm => 62
  | .vmem => 25
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x256x4096, .f32⟩
  | .hbm, ⟨3, _⟩ => ⟨S8x512x1024, .f32⟩
  | .hbm, ⟨4, _⟩ => ⟨S256x768, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S8x4096x3, .f32⟩
  | .hbm, ⟨13, _⟩ => ⟨S8x256x4096, .f32⟩
  | .hbm, ⟨14, _⟩ => ⟨S2x256, .f32⟩
  | .hbm, ⟨15, _⟩ => ⟨S1x256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S1x256, .f32⟩
  | .hbm, ⟨36, _⟩ => ⟨S2x256, .f32⟩
  | .hbm, ⟨37, _⟩ => ⟨S8x256x4096, .f32⟩
  | .hbm, ⟨38, _⟩ => ⟨S2x256, .f32⟩
  | .hbm, ⟨39, _⟩ => ⟨S1x256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S1x256, .f32⟩
  | .hbm, ⟨60, _⟩ => ⟨S2x256, .f32⟩
  | .hbm, ⟨61, _⟩ => ⟨S8x256x4096, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x1024, .f32⟩
  | .local _ .vmem, ⟨7, _⟩ => ⟨S1x512x1024, .f32⟩
  | .local _ .vmem, ⟨8, _⟩ => ⟨S256x768, .f32⟩
  | .local _ .vmem, ⟨9, _⟩ => ⟨S1x256x1024, .f32⟩
  | .local _ .vmem, ⟨10, _⟩ => ⟨S1x256x1024, .f32⟩
  | .local _ .vmem, ⟨11, _⟩ => ⟨S2x256, .f32⟩
  | .local _ .vmem, ⟨12, _⟩ => ⟨S256x1024, .bf16⟩
  | .local _ .vmem, ⟨13, _⟩ => ⟨S1x256x2048, .f32⟩
  | .local _ .vmem, ⟨14, _⟩ => ⟨S1x256x2048, .f32⟩
  | .local _ .vmem, ⟨15, _⟩ => ⟨S256x256, .f32⟩
  | .local _ .vmem, ⟨16, _⟩ => ⟨S2x256, .f32⟩
  | .local _ .vmem, ⟨17, _⟩ => ⟨S1x256x2048, .f32⟩
  | .local _ .vmem, ⟨18, _⟩ => ⟨S1x256x2048, .f32⟩
  | .local _ .vmem, ⟨19, _⟩ => ⟨S2x256, .f32⟩
  | .local _ .vmem, ⟨20, _⟩ => ⟨S1x256x4096, .f32⟩
  | .local _ .vmem, ⟨21, _⟩ => ⟨S1x256x4096, .f32⟩
  | .local _ .vmem, ⟨22, _⟩ => ⟨S2x256, .f32⟩
  | .local _ .vmem, ⟨23, _⟩ => ⟨S1x256x4096, .f32⟩
  | .local _ .vmem, ⟨24, _⟩ => ⟨S1x256x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S2x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S8x4096x3 : Shape := ⟨3, ![8, 4096, 3]⟩
abbrev S8x1024x3 : Shape := ⟨3, ![8, 1024, 3]⟩
abbrev S8x1024x512 : Shape := ⟨3, ![8, 1024, 512]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x3x1 : Shape := ⟨4, ![8, 4096, 3, 1]⟩
abbrev S1 : Shape := ⟨1, ![1]⟩
abbrev S1x1x1x1 : Shape := ⟨4, ![1, 1, 1, 1]⟩
abbrev S8 : Shape := ⟨1, ![8]⟩
abbrev S8x1x1 : Shape := ⟨3, ![8, 1, 1]⟩
abbrev S8x4096x3x2 : Shape := ⟨4, ![8, 4096, 3, 2]⟩
abbrev S8x4096x3x512 : Shape := ⟨4, ![8, 4096, 3, 512]⟩
abbrev S8x4096x512 : Shape := ⟨3, ![8, 4096, 512]⟩
abbrev S8x4096x256 : Shape := ⟨3, ![8, 4096, 256]⟩
abbrev S8x4096x768 : Shape := ⟨3, ![8, 4096, 768]⟩
abbrev S8x768x4096 : Shape := ⟨3, ![8, 768, 4096]⟩
abbrev S1x256x1 : Shape := ⟨3, ![1, 256, 1]⟩

abbrev nBuf : Space → Nat
  | .hbm => 201
  | .vmem => 0
  | .smem => 0
  | _ => 0

abbrev hbmTy0_0 (i : Nat) : BufTy := match i % 128 with
  | 0 => ⟨S8x3x4096, .f32⟩
  | 1 => ⟨S8x3x1024, .f32⟩
  | 2 => ⟨S8x256x4096, .f32⟩
  | 3 => ⟨S8x512x1024, .f32⟩
  | 4 => ⟨S256x768, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S8x4096x3, .f32⟩
  | 13 => ⟨S8x1024x3, .f32⟩
  | 14 => ⟨S8x1024x512, .f32⟩
  | 15 => ⟨S8x4096x1024, .f32⟩
  | 16 => ⟨S_, .f32⟩
  | 17 => ⟨S8x4096x1024, .f32⟩
  | 18 => ⟨S8x4096x1024, .f32⟩
  | 19 => ⟨S8x4096x3, .f32⟩
  | 20 => ⟨S_, .f32⟩
  | 21 => ⟨S8x4096, .f32⟩
  | 22 => ⟨S8x4096x1, .f32⟩
  | 23 => ⟨S8x4096x1024, .f32⟩
  | 24 => ⟨S8x4096x1024, .f32⟩
  | 25 => ⟨S8x1024x3, .f32⟩
  | 26 => ⟨S_, .f32⟩
  | 27 => ⟨S8x1024, .f32⟩
  | 28 => ⟨S8x1x1024, .f32⟩
  | 29 => ⟨S8x4096x1024, .f32⟩
  | 30 => ⟨S8x4096x1024, .f32⟩
  | 31 => ⟨S8x4096x1024, .i32⟩
  | 32 => ⟨S8x4096x1024, .f32⟩
  | 33 => ⟨S8x4096x1024, .i32⟩
  | 34 => ⟨S8x4096x3, .i32⟩
  | 35 => ⟨S_, .i32⟩
  | 36 => ⟨S8x4096x3, .i32⟩
  | 37 => ⟨S8x4096x3, .i1⟩
  | 38 => ⟨S_, .i32⟩
  | 39 => ⟨S8x4096x3, .i32⟩
  | 40 => ⟨S8x4096x3, .i32⟩
  | 41 => ⟨S8x4096x3, .i32⟩
  | 42 => ⟨S8x4096x3x1, .i32⟩
  | 43 => ⟨S1, .i32⟩
  | 44 => ⟨S_, .i32⟩
  | 45 => ⟨S8x4096x3x1, .i32⟩
  | 46 => ⟨S8x4096x3x1, .i1⟩
  | 47 => ⟨S1x1x1x1, .i32⟩
  | 48 => ⟨S8x4096x3x1, .i32⟩
  | 49 => ⟨S8x4096x3x1, .i1⟩
  | 50 => ⟨S8x4096x3x1, .i1⟩
  | 51 => ⟨S_, .i1⟩
  | 52 => ⟨S8x4096x3, .i1⟩
  | 53 => ⟨S8x4096x3, .f32⟩
  | 54 => ⟨S_, .f32⟩
  | 55 => ⟨S8x4096x3, .f32⟩
  | 56 => ⟨S8x4096x3, .f32⟩
  | 57 => ⟨S_, .f32⟩
  | 58 => ⟨S8x4096x3, .f32⟩
  | 59 => ⟨S8x4096x3, .f32⟩
  | 60 => ⟨S_, .f32⟩
  | 61 => ⟨S8x4096x3, .f32⟩
  | 62 => ⟨S8x4096x3, .f32⟩
  | 63 => ⟨S_, .f32⟩
  | 64 => ⟨S8x4096, .f32⟩
  | 65 => ⟨S8x4096x1, .f32⟩
  | 66 => ⟨S8x4096x3, .f32⟩
  | 67 => ⟨S8x4096x3, .f32⟩
  | 68 => ⟨S8, .i32⟩
  | 69 => ⟨S8x1x1, .i32⟩
  | 70 => ⟨S_, .i32⟩
  | 71 => ⟨S8x1x1, .i32⟩
  | 72 => ⟨S8x1x1, .i1⟩
  | 73 => ⟨S_, .i32⟩
  | 74 => ⟨S8x1x1, .i32⟩
  | 75 => ⟨S8x1x1, .i32⟩
  | 76 => ⟨S8x1x1, .i32⟩
  | 77 => ⟨S_, .i32⟩
  | 78 => ⟨S8x4096x3, .i32⟩
  | 79 => ⟨S8x4096x3, .i1⟩
  | 80 => ⟨S_, .i32⟩
  | 81 => ⟨S8x4096x3, .i32⟩
  | 82 => ⟨S8x4096x3, .i32⟩
  | 83 => ⟨S8x4096x3, .i32⟩
  | 84 => ⟨S8x4096x3, .i32⟩
  | 85 => ⟨S8x4096x3x1, .i32⟩
  | 86 => ⟨S8x4096x3x1, .i32⟩
  | 87 => ⟨S8x4096x3x2, .i32⟩
  | 88 => ⟨S8x4096x3x512, .f32⟩
  | 89 => ⟨S8x4096x3x1, .f32⟩
  | 90 => ⟨S8x4096x3x512, .f32⟩
  | 91 => ⟨S8x4096x3x512, .f32⟩
  | 92 => ⟨S_, .f32⟩
  | 93 => ⟨S8x4096x512, .f32⟩
  | 94 => ⟨S8x4096x256, .f32⟩
  | 95 => ⟨S8x4096x768, .f32⟩
  | 96 => ⟨S8x768x4096, .f32⟩
  | 97 => ⟨S8x4096x256, .f32⟩
  | 98 => ⟨S8x256x4096, .f32⟩
  | 99 => ⟨S1x256x1, .f32⟩
  | 100 => ⟨S8x256x4096, .f32⟩
  | 101 => ⟨S8x256x4096, .f32⟩
  | 102 => ⟨S_, .f32⟩
  | 103 => ⟨S256, .f32⟩
  | 104 => ⟨S1x256x1, .f32⟩
  | 105 => ⟨S_, .f32⟩
  | 106 => ⟨S1x256x1, .f32⟩
  | 107 => ⟨S1x256x1, .f32⟩
  | 108 => ⟨S_, .i32⟩
  | 109 => ⟨S_, .f32⟩
  | 110 => ⟨S256, .f32⟩
  | 111 => ⟨S1x256x1, .f32⟩
  | 112 => ⟨S_, .f32⟩
  | 113 => ⟨S1x256x1, .f32⟩
  | 114 => ⟨S1x256x1, .f32⟩
  | 115 => ⟨S8x256x4096, .f32⟩
  | 116 => ⟨S8x256x4096, .f32⟩
  | 117 => ⟨S8x256x4096, .f32⟩
  | 118 => ⟨S_, .f32⟩
  | 119 => ⟨S_, .f32⟩
  | 120 => ⟨S_, .f32⟩
  | 121 => ⟨S_, .f32⟩
  | 122 => ⟨S256, .f32⟩
  | 123 => ⟨S1x256x1, .f32⟩
  | 124 => ⟨S1x256x1, .f32⟩
  | 125 => ⟨S1x256x1, .f32⟩
  | 126 => ⟨S_, .f32⟩
  | 127 => ⟨S_, .i1⟩
  | _ => ⟨S8x3x4096, .f32⟩

abbrev hbmTy0_1 (i : Nat) : BufTy := match i % 128 with
  | 0 => ⟨S_, .f32⟩
  | 1 => ⟨S_, .f32⟩
  | 2 => ⟨S1x256x1, .f32⟩
  | 3 => ⟨S1x256x1, .f32⟩
  | 4 => ⟨S1x256x1, .f32⟩
  | 5 => ⟨S8x256x4096, .f32⟩
  | 6 => ⟨S8x256x4096, .f32⟩
  | 7 => ⟨S8x256x4096, .f32⟩
  | 8 => ⟨S8x256x4096, .f32⟩
  | 9 => ⟨S_, .f32⟩
  | 10 => ⟨S1x256x1, .f32⟩
  | 11 => ⟨S1x256x1, .f32⟩
  | 12 => ⟨S1x256x1, .f32⟩
  | 13 => ⟨S8x256x4096, .f32⟩
  | 14 => ⟨S8x256x4096, .f32⟩
  | 15 => ⟨S1x256x1, .f32⟩
  | 16 => ⟨S8x256x4096, .f32⟩
  | 17 => ⟨S8x256x4096, .f32⟩
  | 18 => ⟨S_, .f32⟩
  | 19 => ⟨S8x256x4096, .f32⟩
  | 20 => ⟨S8x256x4096, .f32⟩
  | 21 => ⟨S8x4096x256, .f32⟩
  | 22 => ⟨S8x256x4096, .f32⟩
  | 23 => ⟨S1x256x1, .f32⟩
  | 24 => ⟨S8x256x4096, .f32⟩
  | 25 => ⟨S8x256x4096, .f32⟩
  | 26 => ⟨S_, .f32⟩
  | 27 => ⟨S256, .f32⟩
  | 28 => ⟨S1x256x1, .f32⟩
  | 29 => ⟨S_, .f32⟩
  | 30 => ⟨S1x256x1, .f32⟩
  | 31 => ⟨S1x256x1, .f32⟩
  | 32 => ⟨S_, .i32⟩
  | 33 => ⟨S_, .f32⟩
  | 34 => ⟨S256, .f32⟩
  | 35 => ⟨S1x256x1, .f32⟩
  | 36 => ⟨S_, .f32⟩
  | 37 => ⟨S1x256x1, .f32⟩
  | 38 => ⟨S1x256x1, .f32⟩
  | 39 => ⟨S8x256x4096, .f32⟩
  | 40 => ⟨S8x256x4096, .f32⟩
  | 41 => ⟨S8x256x4096, .f32⟩
  | 42 => ⟨S_, .f32⟩
  | 43 => ⟨S_, .f32⟩
  | 44 => ⟨S_, .f32⟩
  | 45 => ⟨S_, .f32⟩
  | 46 => ⟨S256, .f32⟩
  | 47 => ⟨S1x256x1, .f32⟩
  | 48 => ⟨S1x256x1, .f32⟩
  | 49 => ⟨S1x256x1, .f32⟩
  | 50 => ⟨S_, .f32⟩
  | 51 => ⟨S_, .i1⟩
  | 52 => ⟨S_, .f32⟩
  | 53 => ⟨S_, .f32⟩
  | 54 => ⟨S1x256x1, .f32⟩
  | 55 => ⟨S1x256x1, .f32⟩
  | 56 => ⟨S1x256x1, .f32⟩
  | 57 => ⟨S8x256x4096, .f32⟩
  | 58 => ⟨S8x256x4096, .f32⟩
  | 59 => ⟨S8x256x4096, .f32⟩
  | 60 => ⟨S8x256x4096, .f32⟩
  | 61 => ⟨S_, .f32⟩
  | 62 => ⟨S1x256x1, .f32⟩
  | 63 => ⟨S1x256x1, .f32⟩
  | 64 => ⟨S1x256x1, .f32⟩
  | 65 => ⟨S8x256x4096, .f32⟩
  | 66 => ⟨S8x256x4096, .f32⟩
  | 67 => ⟨S1x256x1, .f32⟩
  | 68 => ⟨S8x256x4096, .f32⟩
  | 69 => ⟨S8x256x4096, .f32⟩
  | 70 => ⟨S_, .f32⟩
  | 71 => ⟨S8x256x4096, .f32⟩
  | 72 => ⟨S8x256x4096, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1_0 : Ref sig .tc := ⟨.hbm, 32, rfl⟩
abbrev main_v16 : Ref sig .tc := ⟨.hbm, 33, rfl⟩
abbrev main_v17 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v18 : Ref sig .tc := ⟨.hbm, 56, rfl⟩
abbrev main_cst_2 : Ref sig .tc := ⟨.hbm, 57, rfl⟩
abbrev main_v19 : Ref sig .tc := ⟨.hbm, 58, rfl⟩
abbrev main_v20 : Ref sig .tc := ⟨.hbm, 59, rfl⟩
abbrev main_cst_3 : Ref sig .tc := ⟨.hbm, 60, rfl⟩
abbrev main_v21 : Ref sig .tc := ⟨.hbm, 61, rfl⟩
abbrev main_v22 : Ref sig .tc := ⟨.hbm, 62, rfl⟩
abbrev main_cst_4 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c : Ref sig .tc := ⟨.hbm, 70, rfl⟩
abbrev main_v29 : Ref sig .tc := ⟨.hbm, 71, rfl⟩
abbrev main_v30 : Ref sig .tc := ⟨.hbm, 72, rfl⟩
abbrev main_c_5 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_6 : Ref sig .tc := ⟨.hbm, 77, rfl⟩
abbrev main_v34 : Ref sig .tc := ⟨.hbm, 78, rfl⟩
abbrev main_v35 : Ref sig .tc := ⟨.hbm, 79, rfl⟩
abbrev main_c_7 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_8 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_9 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_c_11 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_v12 : Ref sig .tc := ⟨.hbm, 125, rfl⟩
abbrev main_call2_cst_3 : Ref sig .tc := ⟨.hbm, 126, rfl⟩
abbrev main_call2_v13 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_cst_12 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_call3_cst : Ref sig .tc := ⟨.hbm, 146, rfl⟩
abbrev main_call3_v0 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_13 : Ref sig .tc := ⟨.hbm, 154, rfl⟩
abbrev main_v80 : Ref sig .tc := ⟨.hbm, 155, rfl⟩
abbrev main_v81 : Ref sig .tc := ⟨.hbm, 156, rfl⟩
abbrev main_cst_14 : Ref sig .tc := ⟨.hbm, 157, rfl⟩
abbrev main_v82 : Ref sig .tc := ⟨.hbm, 158, rfl⟩
abbrev main_v83 : Ref sig .tc := ⟨.hbm, 159, rfl⟩
abbrev main_c_15 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_cst_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_cst_1 : Ref sig .tc := ⟨.hbm, 171, rfl⟩
abbrev main_call4_v8 : Ref sig .tc := ⟨.hbm, 172, rfl⟩
abbrev main_call4_cst_2 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_v12 : Ref sig .tc := ⟨.hbm, 177, rfl⟩
abbrev main_call4_cst_3 : Ref sig .tc := ⟨.hbm, 178, rfl⟩
abbrev main_call4_v13 : Ref sig .tc := ⟨.hbm, 179, rfl⟩
abbrev main_call4_cst_4 : Ref sig .tc := ⟨.hbm, 180, rfl⟩
abbrev main_call4_call0_v0 : Ref sig .tc := ⟨.hbm, 181, rfl⟩
abbrev main_call4_call0_v1 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_cst_16 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_call5_cst : Ref sig .tc := ⟨.hbm, 198, rfl⟩
abbrev main_call5_v0 : Ref sig .tc := ⟨.hbm, 199, rfl⟩
abbrev main_v98 : Ref sig .tc := ⟨.hbm, 200, rfl⟩

abbrev nD : Nat := 1
abbrev τ : Topo := Topo.v7x

variable {F : FTy → Type} [FloatOps F]
-- ==== Proof.RunA.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.WholeRead
public import Idealize.ShloMosaic.Lib.Pointwise.Index

@[expose] public section

set_option maxRecDepth 16384

noncomputable section
namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass A: what one point of its grid computes -/

/-- The left 256 columns of `W1`. -/
def wLeft (x4 : Vec F S256x768 .f32) : Vec F S256x256 .f32 :=
  View.ld x4 (Rect.unit (s := S256x768) ![0, 0] S256x256.size inb_S256x768_S256x256_0_0)

/-- The right 512 columns of `W1`. -/
def wRight (x4 : Vec F S256x768 .f32) : Vec F S256x512 .f32 :=
  View.ld x4 (Rect.unit (s := S256x768) ![0, 256] S256x512.size inb_S256x768_S256x512_0_256)

/-- The projected coarse features that a batch's first point leaves in the scratch buffer. -/
def projA (x3 : Vec F S1x512x1024 .f32) (x4 : Vec F S256x768 .f32) : Vec F S256x1024 .bf16 :=
  k0_pay1 (wRight x4) x3

/-- The interpolation weights of a point's 1024 fine points against the 1024 coarse points. -/
def wtA (x0 : Vec F S1x1024x3 .f32) (x1 : Vec F S1x3x1024 .f32) : Vec F S1024x1024 .f32 :=
  k0_pay8 (k0_pay4 x0 x1) (k0_pay5 x0) (k0_pay6 x1) (k0_pay7 (F := F))

/-- A point's block of the first layer's convolution, from the projected features `p`. -/
def outA (x0 : Vec F S1x1024x3 .f32) (x1 : Vec F S1x3x1024 .f32) (x2 : Vec F S1x256x1024 .f32) (x4 : Vec F S256x768 .f32) (p : Vec F S256x1024 .bf16) : Vec F S1x256x1024 .f32 :=
  k0_pay10 (wtA x0 x1) (wLeft x4) x2 p

/-- The first row of the 2x256 statistics. -/
abbrev row0 : Rect S2x256 := Rect.unit (s := S2x256) ![0, 0] S1x256.size inb_S2x256_S1x256_0_0
/-- The second row of the 2x256 statistics. -/
abbrev row1 : Rect S2x256 := Rect.unit (s := S2x256) ![1, 0] S1x256.size inb_S2x256_S1x256_1_0

/-- The index of a 1x256 row that an index of the 2x256 array names. -/
def rowIx (y : S2x256.Idx) : S1x256.Idx := ix2 0 (y 1)

/-- A 2x256 array from its two rows. -/
def rowsOf (w0 w1 : Vec F S1x256 .f32) : Vec F S2x256 .f32 :=
  fun y => if (y 0).val = 0 then w0 (rowIx y) else w1 (rowIx y)

/-- The statistics after a point that found them at `s`. -/
def statA (x0 : Vec F S1x1024x3 .f32) (x1 : Vec F S1x3x1024 .f32) (x2 : Vec F S1x256x1024 .f32) (x4 : Vec F S256x768 .f32) (p : Vec F S256x1024 .bf16) (s : Vec F S2x256 .f32) : Vec F S2x256 .f32 :=
  rowsOf (k0_pay12 (wtA x0 x1) (wLeft x4) x2 p (View.ld s row0)) (k0_pay13 (wtA x0 x1) (wLeft x4) x2 p (View.ld s row1))

/-- A load of a memref held whole reads the contents' window. -/
theorem readAt_ld {sp : Space} {s : Shape} {e : EltTy} {m : Memref sig .tc sp s e} (h : m.IsWhole) (X : Vec F s e) (r : Rect s) :
    View.readAt (Elt F) m.view r.toLoadRect (h.unread X) = View.ld X r := funext fun x => h.readAt_unread X _ x

theorem off2_zero : (![0, 0] : Fin 2 → ℕ) = fun _ => 0 := by decide
theorem off3_zero : (![0, 0, 0] : Fin 3 → ℕ) = fun _ => 0 := by decide

theorem row0_emb (y : S2x256.Idx) (h : (y 0).val = 0) : row0.emb (rowIx y) = y := by
  funext a; apply Fin.ext; match a with
  | 0 => exact h.symm
  | 1 => show 0 + 1 * (y 1).val = (y 1).val; omega

theorem row1_emb (y : S2x256.Idx) (h : (y 0).val ≠ 0) : row1.emb (rowIx y) = y := by
  have hy : (y 0).val < 2 := (y 0).isLt
  funext a; apply Fin.ext; match a with
  | 0 => show 1 + 1 * 0 = (y 0).val; omega
  | 1 => show 0 + 1 * (y 1).val = (y 1).val; omega

theorem row0_not_mem_row1 (x : S1x256.Idx) : row0.emb x ∉ row1.set := by
  intro h
  obtain ⟨z, hz⟩ := row1.exists_idx_of_mem h
  have h0 : 1 + 1 * (z 0).val = 0 + 1 * (x 0).val := congrArg Fin.val (congrFun hz 0)
  have : (x 0).val < 1 := (x 0).isLt
  omega

theorem row1_not_mem_row0 (x : S1x256.Idx) : row1.emb x ∉ row0.set := by
  intro h
  obtain ⟨z, hz⟩ := row0.exists_idx_of_mem h
  have h0 : 0 + 1 * (z 0).val = 1 + 1 * (x 0).val := congrArg Fin.val (congrFun hz 0)
  have : (z 0).val < 1 := (z 0).isLt
  omega

/-- A 2x256 buffer whose two rows were stored last reads the two rows. -/
theorem read_rows {sp : Space} (v : View sig .tc sp S2x256 .f32) (f : v.ty.Contents (Elt F)) (w0 w1 : Vec F S1x256 .f32)
    (L : List (View.Piece (Elt F) S2x256 .f32)) :
    v.read (Elt F) (v.writes (Elt F) f (⟨row1, w1⟩ :: ⟨row0, w0⟩ :: L)) = rowsOf w0 w1 := by
  funext y
  by_cases hy : (y 0).val = 0
  · have hm : row0.emb (rowIx y) ∈ row0.set := by
      rw [← Rect.map_emb_univ]; exact Finset.mem_map_of_mem _ (Finset.mem_univ _)
    have e := View.read_writes_apply_eq_canon v f (row0.emb (rowIx y)) (⟨row1, w1⟩ :: ⟨row0, w0⟩ :: L)
      ⟨⟨row0, w0⟩, List.mem_cons_of_mem _ List.mem_cons_self, hm⟩
    have e1 : View.canon (⟨row1, w1⟩ :: ⟨row0, w0⟩ :: L) (row0.emb (rowIx y)) = View.canon (⟨row0, w0⟩ :: L) (row0.emb (rowIx y)) :=
      View.canon_cons_of_not_mem ⟨row1, w1⟩ _ (row0_not_mem_row1 (rowIx y))
    have e2 : View.canon (⟨row0, w0⟩ :: L) (row0.emb (rowIx y)) = w0 (rowIx y) := View.canon_cons_emb row0 w0 L (rowIx y)
    have e3 := e.trans (e1.trans e2)
    rw [row0_emb y hy] at e3
    exact e3.trans (if_pos hy).symm
  · have e : v.read (Elt F) (v.writes (Elt F) f (⟨row1, w1⟩ :: ⟨row0, w0⟩ :: L)) (row1.emb (rowIx y)) = w1 (rowIx y) :=
      View.read_writes_cons_emb v f row1 w1 (⟨row0, w0⟩ :: L) (rowIx y)
    rw [row1_emb y hy] at e
    exact e.trans (if_neg hy).symm

/-- The first row of an array stored whole. -/
theorem readCov_row0 {sp : Space} (v : View sig .tc sp S2x256 .f32) (w : Vec F S2x256 .f32) :
    v.readCov [(⟨Rect.unit (s := S2x256) ![0, 0] S2x256.size inb_S2x256_S2x256_0_0, w⟩ : View.Piece (Elt F) S2x256 .f32)] row0.toLoadRect = View.ld w row0 := by
  rw [View.readCov_eq_canon _ _ _ (fun j => ⟨_, List.mem_singleton_self _, View.mem_set_unit_zero off2_zero inb_S2x256_S2x256_0_0 _⟩)]
  exact funext fun j => congrFun (View.canon_unit_zero off2_zero inb_S2x256_S2x256_0_0 w) _

/-- The second row of an array stored whole, its first row then stored again. -/
theorem readCov_row1 {sp : Space} (v : View sig .tc sp S2x256 .f32) (w : Vec F S2x256 .f32) (w0 : Vec F S1x256 .f32) :
    v.readCov [(⟨row0, w0⟩ : View.Piece (Elt F) S2x256 .f32), ⟨Rect.unit (s := S2x256) ![0, 0] S2x256.size inb_S2x256_S2x256_0_0, w⟩] row1.toLoadRect = View.ld w row1 := by
  rw [View.readCov_eq_canon _ _ _ (fun j => ⟨_, List.mem_cons_of_mem _ (List.mem_singleton_self _), View.mem_set_unit_zero off2_zero inb_S2x256_S2x256_0_0 _⟩)]
  funext j
  have e : View.canon [(⟨row0, w0⟩ : View.Piece (Elt F) S2x256 .f32), ⟨Rect.unit (s := S2x256) ![0, 0] S2x256.size inb_S2x256_S2x256_0_0, w⟩] (row1.emb j) = w (row1.emb j) :=
    (View.canon_cons_of_not_mem ⟨row0, w0⟩ _ (row1_not_mem_row0 j)).trans (congrFun (View.canon_unit_zero off2_zero inb_S2x256_S2x256_0_0 w) _)
  exact e

/-- A load of a whole memref through the whole rectangle reads its contents. -/
theorem readAt_whole {sp : Space} {s : Shape} {e : EltTy} {m : Memref sig .tc sp s e} (h : m.IsWhole) (X : Vec F s e)
    {off : Fin s.rank → ℕ} (h0 : off = fun _ => 0) (inb : ∀ a, off a + s.size a ≤ s.size a) :
    View.readAt (Elt F) m.view (Rect.unit off s.size inb).toLoadRect (h.unread X) = X :=
  (readAt_ld h X _).trans (View.ld_unit_zero h0 inb X)

/-- One store through the whole rectangle leaves its payload. -/
theorem read_whole {sp : Space} {s : Shape} {e : EltTy} (v : View sig .tc sp s e) (f : v.ty.Contents (Elt F))
    {off : Fin s.rank → ℕ} (h0 : off = fun _ => 0) (inb : ∀ a, off a + s.size a ≤ s.size a) (w : Vec F s e) :
    v.read (Elt F) (v.writes (Elt F) f [(⟨Rect.unit off s.size inb, w⟩ : View.Piece (Elt F) s e)]) = w :=
  (View.read_writes_eq_canon v f _ (fun y => ⟨_, List.mem_singleton_self _, View.mem_set_unit_zero h0 inb y⟩)).trans (View.canon_unit_zero h0 inb w)

theorem pay10_congr {a a' : Vec F S1024x1024 .f32} {b b' : Vec F S256x256 .f32} {c c' : Vec F S1x256x1024 .f32} {d d' : Vec F S256x1024 .bf16}
    (ha : a = a') (hb : b = b') (hc : c = c') (hd : d = d') : k0_pay10 a b c d = k0_pay10 a' b' c' d' := by subst ha hb hc hd; rfl

theorem pay12_congr {a a' : Vec F S1024x1024 .f32} {b b' : Vec F S256x256 .f32} {c c' : Vec F S1x256x1024 .f32} {d d' : Vec F S256x1024 .bf16} {e e' : Vec F S1x256 .f32}
    (ha : a = a') (hb : b = b') (hc : c = c') (hd : d = d') (he : e = e') : k0_pay12 a b c d e = k0_pay12 a' b' c' d' e' := by subst ha hb hc hd he; rfl

theorem pay13_congr {a a' : Vec F S1024x1024 .f32} {b b' : Vec F S256x256 .f32} {c c' : Vec F S1x256x1024 .f32} {d d' : Vec F S256x1024 .bf16} {e e' : Vec F S1x256 .f32}
    (ha : a = a') (hb : b = b') (hc : c = c') (hd : d = d') (he : e = e') : k0_pay13 a b c d e = k0_pay13 a' b' c' d' e' := by subst ha hb hc hd he; rfl

/-- The weights computed from the loaded coordinates. -/
theorem wtA_load {sp sp' : Space} {m2 : Memref sig .tc sp S1x1024x3 .f32} (h2 : m2.IsWhole) {m3 : Memref sig .tc sp' S1x3x1024 .f32} (h3 : m3.IsWhole)
    (x0 : Vec F S1x1024x3 .f32) (x1 : Vec F S1x3x1024 .f32) :
    k0_pay8 (k0_pay4 (View.readAt (Elt F) m2.view (Rect.unit (s := S1x1024x3) ![0, 0, 0] S1x1024x3.size inb_S1x1024x3_S1x1024x3_0_0_0).toLoadRect (h2.unread x0)) (View.readAt (Elt F) m3.view (Rect.unit (s := S1x3x1024) ![0, 0, 0] S1x3x1024.size inb_S1x3x1024_S1x3x1024_0_0_0).toLoadRect (h3.unread x1)))
      (k0_pay5 (View.readAt (Elt F) m2.view (Rect.unit (s := S1x1024x3) ![0, 0, 0] S1x1024x3.size inb_S1x1024x3_S1x1024x3_0_0_0).toLoadRect (h2.unread x0)))
      (k0_pay6 (View.readAt (Elt F) m3.view (Rect.unit (s := S1x3x1024) ![0, 0, 0] S1x3x1024.size inb_S1x3x1024_S1x3x1024_0_0_0).toLoadRect (h3.unread x1))) (k0_pay7 (F := F)) = wtA x0 x1 := by
  rw [readAt_whole h2 x0 off3_zero, readAt_whole h3 x1 off3_zero]; rfl

/-- The projection computed from the loaded weights and features. -/
theorem projA_load {sp sp' : Space} {m5 : Memref sig .tc sp S1x512x1024 .f32} (h5 : m5.IsWhole) {m6 : Memref sig .tc sp' S256x768 .f32} (h6 : m6.IsWhole)
    (x3 : Vec F S1x512x1024 .f32) (x4 : Vec F S256x768 .f32) :
    k0_pay1 (View.readAt (Elt F) m6.view (Rect.unit (s := S256x768) ![0, 256] S256x512.size inb_S256x768_S256x512_0_256).toLoadRect (h6.unread x4))
      (View.readAt (Elt F) m5.view (Rect.unit (s := S1x512x1024) ![0, 0, 0] S1x512x1024.size inb_S1x512x1024_S1x512x1024_0_0_0).toLoadRect (h5.unread x3)) = projA x3 x4 := by
  rw [readAt_ld h6, readAt_whole h5 x3 off3_zero]; rfl

/-- The branch a batch's first point takes. -/
abbrev condA0 (i : grid0.Coords) : Prop := (Scalar.cmpi .ne (Scalar.extui (Scalar.cmpi .eq (BitVec.ofNat 32 (i 1).val) 0#32)) 0#32) = 1#1
/-- The branch the grid's first point takes. -/
abbrev condA1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
/-- The body at the grid's first point: it fills the projection and starts the statistics from zero. -/
theorem runA_first (c : Dev nD) (i : grid0.Coords) (arg2 : Memref sig .tc .vmem S1x1024x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x512x1024 .f32) (harg5 : arg5.IsWhole) (arg6 : Memref sig .tc .vmem S256x768 .f32) (harg6 : arg6.IsWhole) (arg7 : Memref sig .tc .vmem S1x256x1024 .f32) (harg7 : arg7.IsWhole) (arg8 : Memref sig .tc .vmem S2x256 .f32) (harg8 : arg8.IsWhole) (arg9 : Memref sig .tc .vmem S256x1024 .bf16) (harg9 : arg9.IsWhole) (hc0 : condA0 i) (hc1 : condA1 i)
    (x0 : Vec F S1x1024x3 .f32) (x1 : Vec F S1x3x1024 .f32) (x2 : Vec F S1x256x1024 .f32) (x3 : Vec F S1x512x1024 .f32) (x4 : Vec F S256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outA x0 x1 x2 x4 (projA x3 x4)) ∗ owns (c : Thread nD τ) arg8 fullShare (statA x0 x1 x2 x4 (projA x3 x4) (k0_pay11 (F := F))) ∗ owns (c : Thread nD τ) arg9 fullShare (projA x3 x4)) -∗ K ⟨⟩))
      ⊢ wp frame (wpE (defs₀ (F := F)) Variants.none c none) E (cc0__pass_a i arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (read_whole arg7.view f5 off3_zero _ _).trans (pay10_congr (wtA_load harg2 harg3 x0 x1) (readAt_ld harg6 x4 _) (readAt_whole harg4 x2 off3_zero _) ((View.readCov_unit_zero _ off2_zero _ _).trans (projA_load harg5 harg6 x3 x4)))
  isplitl [H6]
  · iexists _; isplitr; swap; · iexact H6
    ipureintro
    refine (read_rows arg8.view _ _ _ _).trans (congrArg₂ rowsOf ?_ ?_)
    · exact pay12_congr (wtA_load harg2 harg3 x0 x1) (readAt_ld harg6 x4 _) (readAt_whole harg4 x2 off3_zero _) ((View.readCov_unit_zero _ off2_zero _ _).trans (projA_load harg5 harg6 x3 x4)) (readCov_row0 arg8.view _)
    · exact pay13_congr (wtA_load harg2 harg3 x0 x1) (readAt_ld harg6 x4 _) (readAt_whole harg4 x2 off3_zero _) ((View.readCov_unit_zero _ off2_zero _ _).trans (projA_load harg5 harg6 x3 x4)) (readCov_row1 arg8.view _ _)
  iexists _; isplitr; swap; · iexact H7
  ipureintro
  exact (read_whole arg9.view _ off2_zero _ _).trans (projA_load harg5 harg6 x3 x4)

set_option maxHeartbeats 4000000 in
/-- The body at another batch's first point: it fills the projection and adds to the statistics. -/
theorem runA_head (c : Dev nD) (i : grid0.Coords) (arg2 : Memref sig .tc .vmem S1x1024x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x512x1024 .f32) (harg5 : arg5.IsWhole) (arg6 : Memref sig .tc .vmem S256x768 .f32) (harg6 : arg6.IsWhole) (arg7 : Memref sig .tc .vmem S1x256x1024 .f32) (harg7 : arg7.IsWhole) (arg8 : Memref sig .tc .vmem S2x256 .f32) (harg8 : arg8.IsWhole) (arg9 : Memref sig .tc .vmem S256x1024 .bf16) (harg9 : arg9.IsWhole) (hc0 : condA0 i) (hc1 : ¬condA1 i)
    (x0 : Vec F S1x1024x3 .f32) (x1 : Vec F S1x3x1024 .f32) (x2 : Vec F S1x256x1024 .f32) (x3 : Vec F S1x512x1024 .f32) (x4 : Vec F S256x768 .f32) (s : Vec F S2x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outA x0 x1 x2 x4 (projA x3 x4)) ∗ owns (c : Thread nD τ) arg8 fullShare (statA x0 x1 x2 x4 (projA x3 x4) s) ∗ owns (c : Thread nD τ) arg9 fullShare (projA x3 x4)) -∗ K ⟨⟩))
      ⊢ wp frame (wpE (defs₀ (F := F)) Variants.none c none) E (cc0__pass_a i arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (read_whole arg7.view f5 off3_zero _ _).trans (pay10_congr (wtA_load harg2 harg3 x0 x1) (readAt_ld harg6 x4 _) (readAt_whole harg4 x2 off3_zero _) ((View.readCov_unit_zero _ off2_zero _ _).trans (projA_load harg5 harg6 x3 x4)))
  isplitl [H6]
  · iexists _; isplitr; swap; · iexact H6
    ipureintro
    refine (read_rows arg8.view _ _ _ _).trans (congrArg₂ rowsOf ?_ ?_)
    · exact pay12_congr (wtA_load harg2 harg3 x0 x1) (readAt_ld harg6 x4 _) (readAt_whole harg4 x2 off3_zero _) ((View.readCov_unit_zero _ off2_zero _ _).trans (projA_load harg5 harg6 x3 x4)) (readAt_ld harg8 s _)
    · exact pay13_congr (wtA_load harg2 harg3 x0 x1) (readAt_ld harg6 x4 _) (readAt_whole harg4 x2 off3_zero _) ((View.readCov_unit_zero _ off2_zero _ _).trans (projA_load harg5 harg6 x3 x4)) (readAt_ld harg8 s _)
  iexists _; isplitr; swap; · iexact H7
  ipureintro
  exact (read_whole arg9.view _ off2_zero _ _).trans (projA_load harg5 harg6 x3 x4)

set_option maxHeartbeats 4000000 in
/-- The body at a later point of a batch: it reads the projection and adds to the statistics. -/
theorem runA_next (c : Dev nD) (i : grid0.Coords) (arg2 : Memref sig .tc .vmem S1x1024x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x512x1024 .f32) (harg5 : arg5.IsWhole) (arg6 : Memref sig .tc .vmem S256x768 .f32) (harg6 : arg6.IsWhole) (arg7 : Memref sig .tc .vmem S1x256x1024 .f32) (harg7 : arg7.IsWhole) (arg8 : Memref sig .tc .vmem S2x256 .f32) (harg8 : arg8.IsWhole) (arg9 : Memref sig .tc .vmem S256x1024 .bf16) (harg9 : arg9.IsWhole) (hc0 : ¬condA0 i) (hc1 : ¬condA1 i)
    (x0 : Vec F S1x1024x3 .f32) (x1 : Vec F S1x3x1024 .f32) (x2 : Vec F S1x256x1024 .f32) (x3 : Vec F S1x512x1024 .f32) (x4 : Vec F S256x768 .f32) (p : Vec F S256x1024 .bf16) (s : Vec F S2x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s ∗ owns (c : Thread nD τ) arg9 fullShare p
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outA x0 x1 x2 x4 p) ∗ owns (c : Thread nD τ) arg8 fullShare (statA x0 x1 x2 x4 p s) ∗ owns (c : Thread nD τ) arg9 fullShare p) -∗ K ⟨⟩))
      ⊢ wp frame (wpE (defs₀ (F := F)) Variants.none c none) E (cc0__pass_a i arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (read_whole arg7.view f5 off3_zero _ _).trans (pay10_congr (wtA_load harg2 harg3 x0 x1) (readAt_ld harg6 x4 _) (readAt_whole harg4 x2 off3_zero _) (readAt_whole harg9 p off2_zero _))
  isplitl [H6]
  · iexists _; isplitr; swap; · iexact H6
    ipureintro
    refine (read_rows arg8.view _ _ _ _).trans (congrArg₂ rowsOf ?_ ?_)
    · exact pay12_congr (wtA_load harg2 harg3 x0 x1) (readAt_ld harg6 x4 _) (readAt_whole harg4 x2 off3_zero _) (readAt_whole harg9 p off2_zero _) (readAt_ld harg8 s _)
    · exact pay13_congr (wtA_load harg2 harg3 x0 x1) (readAt_ld harg6 x4 _) (readAt_whole harg4 x2 off3_zero _) (readAt_whole harg9 p off2_zero _) (readAt_ld harg8 s _)
  iexists _; isplitr; swap; · iexact H7
  ipureintro
  exact harg9.read_unread p

end Cert.Own

end
-- ==== Proof.BodyA.lean ====
module
public import proofs.«01_k».proof.Proof.RunA

@[expose] public section

set_option maxRecDepth 16384

noncomputable section
namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass A: its body at every point of the grid -/

theorem hcondA0 : ∀ t : Fin cfg0.N, condA0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [condA0, e0, e1]
    word_cmp
   : ∀ t : Fin grid0.N, condA0 (grid0.coords t) ↔ t.val % 4 = 0)

theorem hcondA1 : ∀ t : Fin cfg0.N, condA1 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [condA1, e0, e1]
    word_cmp
   : ∀ t : Fin grid0.N, condA1 (grid0.coords t) ↔ t.val % 32 = 0)

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .f32 := win0_6.stage (cfg0.slots t 6)
abbrev hs0_6 (t : Fin cfg0.N) : (ms0_6 t).IsWhole := hstage0_6 ((cfg0.slots t 6).cast nbuf0_6)

/-- The scratch buffer that carries the projection between points. -/
abbrev scM0_0 : Memref sig .tc .vmem S256x1024 .bf16 := Memref.whole cc0_scratch0

/-- The other two passes' staging buffers, which this pass leaves alone. -/
def restA (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem PhiA0_eq (c : Dev nD) :
    (Pipeline.ΦA spec0 c : sProp 𝕄)
      = iprop(iprop((∃ d, owns (c : Thread nD τ) scM0_0 fullShare d) ∗ restA c) ∗ (∃ r, prngReg c r)) := by
  unfold Pipeline.ΦA restA; rw [scopedRest0_eq]; simp only [scM0_0, owns_whole]; try rfl

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The projection the scratch buffer holds at point `t`. -/
def projAt (c : Dev nD) (t : Fin cfg0.N) : Vec F S256x1024 .bf16 := projA (iblk0 V c 3 t) (iblk0 V c 4 t)

/-- The statistics after point `n`. -/
def statsA (c : Dev nD) : (n : ℕ) → n < cfg0.N → Vec F S2x256 .f32
  | 0, hn => statA (iblk0 V c 0 ⟨0, hn⟩) (iblk0 V c 1 ⟨0, hn⟩) (iblk0 V c 2 ⟨0, hn⟩) (iblk0 V c 4 ⟨0, hn⟩) (projAt V c ⟨0, hn⟩) (k0_pay11 (F := F))
  | n + 1, hn => statA (iblk0 V c 0 ⟨n + 1, hn⟩) (iblk0 V c 1 ⟨n + 1, hn⟩) (iblk0 V c 2 ⟨n + 1, hn⟩) (iblk0 V c 4 ⟨n + 1, hn⟩) (projAt V c ⟨n + 1, hn⟩)
      (statsA c n (Nat.lt_of_succ_lt hn))

theorem statsA_zero (c : Dev nD) (t : Fin cfg0.N) (hz : t.val = 0) :
    statsA V c t.val t.isLt = statA (iblk0 V c 0 t) (iblk0 V c 1 t) (iblk0 V c 2 t) (iblk0 V c 4 t) (projAt V c t) (k0_pay11 (F := F)) := by
  obtain ⟨n, hn⟩ := t; obtain rfl : n = 0 := hz; rfl

theorem statsA_pos (c : Dev nD) (t : Fin cfg0.N) (hz : t.val ≠ 0) :
    statsA V c t.val t.isLt = statA (iblk0 V c 0 t) (iblk0 V c 1 t) (iblk0 V c 2 t) (iblk0 V c 4 t) (projAt V c t)
      (statsA V c (t.val - 1) (Nat.lt_of_le_of_lt (Nat.sub_le _ _) t.isLt)) := by
  obtain ⟨n, hn⟩ := t
  cases n with
  | zero => exact absurd rfl hz
  | succ n => rfl

/-- The arrays alone, as proof data of the region. -/
def dat0A (c : Dev nD) : Dat τ (Elt F) Unit ℕ (UR sig nD τ) ℕ cfg0 c where
  A w := V c (Pipeline.arrRef spec0 w)
  after w t := fun _ => Classical.arbitrary _
  Φ _ := Pipeline.ΦA spec0 c
  q _ := fullShare
  owed _ := 0

/-- At a later point of a batch the projection is still the one the point before held. -/
theorem projAt_prev (c : Dev nD) (t : Fin cfg0.N) (h : ¬t.val % 4 = 0) :
    projAt V c ⟨t.val - 1, Nat.lt_of_le_of_lt (Nat.sub_le _ _) t.isLt⟩ = projAt V c t := by
  have hix (w : Fin cfg0.W) (hw : (cfg0.win w).isOut = false) (hf : (cfg0.win w).fetch t = false) :=
    ((cfg0.win w).index_eq_of_fetch hw t hf).2
  have h3 := hix 3 rfl (Bool.eq_false_iff.mpr fun e => h ((fetch0_3 t).mp e))
  have h4 := hix 4 rfl (Bool.eq_false_iff.mpr fun e => h (by have := (fetch0_4 t).mp e; omega))
  have e3 := (dat0A V c).fetched_congr 3 h3 rfl (fun _ => Classical.arbitrary _)
  have e4 := (dat0A V c).fetched_congr 4 h4 rfl (fun _ => Classical.arbitrary _)
  exact congrArg₂ projA e3.symm e4.symm

/-- The invariant before position `n`: after the first point the scratch buffer holds the point before's projection. -/
def PhiS (c : Dev nD) : (n : ℕ) → n ≤ cfg0.N → sProp 𝕄
  | 0, _ => Pipeline.ΦA spec0 c
  | n + 1, hn => iprop(iprop(owns (c : Thread nD τ) scM0_0 fullShare (projAt V c ⟨n, hn⟩) ∗ restA c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (projAt V c ⟨n, hn⟩) ∗ restA c) ∗ (∃ r, prngReg c r)) := rfl

theorem PhiS_pos (c : Dev nD) (n : ℕ) (h : n ≤ cfg0.N) (hz : n ≠ 0) :
    PhiS V c n h = iprop(iprop(owns (c : Thread nD τ) scM0_0 fullShare (projAt V c ⟨n - 1, by omega⟩) ∗ restA c) ∗ (∃ r, prngReg c r)) := by
  cases n with
  | zero => exact absurd rfl hz
  | succ n => rfl

/-- The proof data of the region: the arrays as it finds them, and what the body leaves in each window's buffer. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outA (iblk0 V c 0 t) (iblk0 V c 1 t) (iblk0 V c 2 t) (iblk0 V c 4 t) (projAt V c t)
    | ⟨6, _⟩ => statsA V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outA (iblk0 V c 0 t) (iblk0 V c 1 t) (iblk0 V c 2 t) (iblk0 V c 4 t) (projAt V c t) := by dsimp only [dat0]
theorem after0_6 (c : Dev nD) (t : Fin cfg0.N) : (dat0 V c).after 6 t = statsA V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem PhiS_castSucc (c : Dev nD) (t : Fin cfg0.N) :
    (dat0 V c).Φ t.castSucc = PhiS V c t.val t.isLt.le := rfl

/-- After the first point the statistics' buffer still holds what the point before left. -/
theorem before0_6 (c : Dev nD) (t : Fin cfg0.N) (hz : t.val ≠ 0) (d) :
    (dat0 V c).before 6 t d = statsA V c (t.val - 1) (Nat.lt_of_le_of_lt (Nat.sub_le _ _) t.isLt) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6]
  rw [show (dat0 V c).Φ t.succ = PhiS V c (t.val + 1) t.isLt from rfl, PhiS_succ]
  have hN : t.val < 32 := lt_of_lt_of_eq t.isLt (show cfg0.N = 32 from N_0)
  by_cases hz : t.val = 0
  · have h0 : t.val % 4 = 0 := by omega
    have h1 : t.val % 32 = 0 := by omega
    rw [PhiS_castSucc V c t, PhiS_zero V c _ _ hz, PhiA0_eq, statsA_zero V c t hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (runA_first c (grid0.coords t) _ _ _ _ _ _ _ _ _ _ _ _ _ _ _ _ ((hcondA0 t).mpr h0) ((hcondA1 t).mpr h1) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : ¬t.val % 32 = 0 := by omega
    rw [PhiS_castSucc V c t, PhiS_pos V c _ _ hz, statsA_pos V c t hz]
    simp only [before0_6 V c t hz]
    by_cases h0 : t.val % 4 = 0
    · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (runA_head c (grid0.coords t) _ _ _ _ _ _ _ _ _ _ _ _ _ _ _ _ ((hcondA0 t).mpr h0) (fun h => h1 ((hcondA1 t).mp h)) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [projAt_prev V c t h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (runA_next c (grid0.coords t) _ _ _ _ _ _ _ _ _ _ _ _ _ _ _ _ (fun h => h0 ((hcondA0 t).mp h)) (fun h => h1 ((hcondA1 t).mp h)) (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row0 (t : Fin cfg0.N) :
    defs₀ (F := F) .tc cfg0.body (cfg0.bodyArgs t (cfg0.slots t)) = bodyAt0 t := by
  unfold defs₀; rw [Defs.onTc_tc]

/-- The body's triple at every point, as the launch asks for it. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the scratch buffer's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]; · iexists _; iexact HS0
    iexact Hr
  iexact Hg

end Cert.Own

end
-- ==== Proof.BodyB.lean ====
module
public import proofs.«01_k».proof.Proof.RunA

@[expose] public section

set_option maxRecDepth 16384

noncomputable section
namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass B: one point of its grid, and its body at every point -/

/-- A point's block of the second layer's convolution: `W2` times the scaled, shifted, clamped first layer. -/
def outB (x0 : Vec F S1x256x2048 .f32) (x1 : Vec F S256x256 .f32) (x2 : Vec F S2x256 .f32) : Vec F S1x256x2048 .f32 :=
  k1_pay3 (View.ld x2 row0) (View.ld x2 row1) x0 x1

/-- The statistics after a point that found them at `s`. -/
def statB (x0 : Vec F S1x256x2048 .f32) (x1 : Vec F S256x256 .f32) (x2 : Vec F S2x256 .f32) (s : Vec F S2x256 .f32) : Vec F S2x256 .f32 :=
  rowsOf (k1_pay5 (View.ld x2 row0) (View.ld x2 row1) x0 x1 (View.ld s row0)) (k1_pay1 (k1_pay2 (View.ld x2 row0) (View.ld x2 row1) x0 x1) (View.ld s row1))

/-- The branch the grid's first point takes. -/
abbrev condB (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem pay2B_congr {a a' b b' : Vec F S1x256 .f32} {c c' : Vec F S1x256x2048 .f32} {d d' : Vec F S256x256 .f32}
    (ha : a = a') (hb : b = b') (hc : c = c') (hd : d = d') : k1_pay2 a b c d = k1_pay2 a' b' c' d' := by subst ha hb hc hd; rfl

theorem pay3B_congr {a a' b b' : Vec F S1x256 .f32} {c c' : Vec F S1x256x2048 .f32} {d d' : Vec F S256x256 .f32}
    (ha : a = a') (hb : b = b') (hc : c = c') (hd : d = d') : k1_pay3 a b c d = k1_pay3 a' b' c' d' := by subst ha hb hc hd; rfl

theorem pay5B_congr {a a' b b' : Vec F S1x256 .f32} {c c' : Vec F S1x256x2048 .f32} {d d' : Vec F S256x256 .f32} {e e' : Vec F S1x256 .f32}
    (ha : a = a') (hb : b = b') (hc : c = c') (hd : d = d') (he : e = e') : k1_pay5 a b c d e = k1_pay5 a' b' c' d' e' := by subst ha hb hc hd he; rfl

theorem pay1B_congr {a a' : Vec F S256x2048 .f32} {e e' : Vec F S1x256 .f32}
    (ha : a = a') (he : e = e') : k1_pay1 a e = k1_pay1 a' e' := by subst ha he; rfl

set_option maxHeartbeats 4000000 in
/-- The body at the grid's first point: it starts the statistics from zero. -/
theorem runB_first (c : Dev nD) (i : grid1.Coords) (arg2 : Memref sig .tc .vmem S1x256x2048 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x256x2048 .f32) (harg5 : arg5.IsWhole) (arg6 : Memref sig .tc .vmem S2x256 .f32) (harg6 : arg6.IsWhole) (hc : condB i)
    (x0 : Vec F S1x256x2048 .f32) (x1 : Vec F S256x256 .f32) (x2 : Vec F S2x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2) ∗ owns (c : Thread nD τ) arg6 fullShare (statB x0 x1 x2 (k1_pay4 (F := F)))) -∗ K ⟨⟩))
      ⊢ wp frame (wpE (defs₀ (F := F)) Variants.none c none) E (cc1__pass_b i arg2 harg2 arg3 harg3 arg4 harg4 arg5 harg5 arg6 harg6) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    exact (read_whole arg5.view f3 off3_zero _ _).trans (pay3B_congr (readAt_ld harg4 x2 row0) (readAt_ld harg4 x2 row1) (readAt_whole harg2 x0 off3_zero _) (readAt_whole harg3 x1 off2_zero _))
  iexists _; isplitr; swap; · iexact H4
  ipureintro
  refine (read_rows arg6.view _ _ _ _).trans (congrArg₂ rowsOf ?_ ?_)
  · exact pay5B_congr (readAt_ld harg4 x2 row0) (readAt_ld harg4 x2 row1) (readAt_whole harg2 x0 off3_zero _) (readAt_whole harg3 x1 off2_zero _) (readCov_row0 arg6.view _)
  · exact pay1B_congr (pay2B_congr (readAt_ld harg4 x2 row0) (readAt_ld harg4 x2 row1) (readAt_whole harg2 x0 off3_zero _) (readAt_whole harg3 x1 off2_zero _)) (readCov_row1 arg6.view _ _)

set_option maxHeartbeats 4000000 in
/-- The body at a later point: it adds to the statistics. -/
theorem runB_next (c : Dev nD) (i : grid1.Coords) (arg2 : Memref sig .tc .vmem S1x256x2048 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x256x2048 .f32) (harg5 : arg5.IsWhole) (arg6 : Memref sig .tc .vmem S2x256 .f32) (harg6 : arg6.IsWhole) (hc : ¬condB i)
    (x0 : Vec F S1x256x2048 .f32) (x1 : Vec F S256x256 .f32) (x2 : Vec F S2x256 .f32) (s : Vec F S2x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2) ∗ owns (c : Thread nD τ) arg6 fullShare (statB x0 x1 x2 s)) -∗ K ⟨⟩))
      ⊢ wp frame (wpE (defs₀ (F := F)) Variants.none c none) E (cc1__pass_b i arg2 harg2 arg3 harg3 arg4 harg4 arg5 harg5 arg6 harg6) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    exact (read_whole arg5.view f3 off3_zero _ _).trans (pay3B_congr (readAt_ld harg4 x2 row0) (readAt_ld harg4 x2 row1) (readAt_whole harg2 x0 off3_zero _) (readAt_whole harg3 x1 off2_zero _))
  iexists _; isplitr; swap; · iexact H4
  ipureintro
  refine (read_rows arg6.view _ _ _ _).trans (congrArg₂ rowsOf ?_ ?_)
  · exact pay5B_congr (readAt_ld harg4 x2 row0) (readAt_ld harg4 x2 row1) (readAt_whole harg2 x0 off3_zero _) (readAt_whole harg3 x1 off2_zero _) (readAt_ld harg6 s _)
  · exact pay1B_congr (pay2B_congr (readAt_ld harg4 x2 row0) (readAt_ld harg4 x2 row1) (readAt_whole harg2 x0 off3_zero _) (readAt_whole harg3 x1 off2_zero _)) (readAt_ld harg6 s _)

theorem hcondB : ∀ t : Fin cfg1.N, condB (grid1.coords t) ↔ t.val % 16 = 0 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [condB, e0, e1]
    word_cmp
   : ∀ t : Fin grid1.N, condB (grid1.coords t) ↔ t.val % 16 = 0)

abbrev ms1_0 (t : Fin cfg1.N) : Memref sig .tc .vmem S1x256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x256 .f32 := win1_4.stage (cfg1.slots t 4)
abbrev hs1_4 (t : Fin cfg1.N) : (ms1_4 t).IsWhole := hstage1_4 ((cfg1.slots t 4).cast nbuf1_4)

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The statistics after point `n`. -/
def statsB (c : Dev nD) : (n : ℕ) → n < cfg1.N → Vec F S2x256 .f32
  | 0, hn => statB (iblk1 V c 0 ⟨0, hn⟩) (iblk1 V c 1 ⟨0, hn⟩) (iblk1 V c 2 ⟨0, hn⟩) (k1_pay4 (F := F))
  | n + 1, hn => statB (iblk1 V c 0 ⟨n + 1, hn⟩) (iblk1 V c 1 ⟨n + 1, hn⟩) (iblk1 V c 2 ⟨n + 1, hn⟩) (statsB c n (Nat.lt_of_succ_lt hn))

theorem statsB_zero (c : Dev nD) (t : Fin cfg1.N) (hz : t.val = 0) :
    statsB V c t.val t.isLt = statB (iblk1 V c 0 t) (iblk1 V c 1 t) (iblk1 V c 2 t) (k1_pay4 (F := F)) := by
  obtain ⟨n, hn⟩ := t; obtain rfl : n = 0 := hz; rfl

theorem statsB_pos (c : Dev nD) (t : Fin cfg1.N) (hz : t.val ≠ 0) :
    statsB V c t.val t.isLt = statB (iblk1 V c 0 t) (iblk1 V c 1 t) (iblk1 V c 2 t) (statsB V c (t.val - 1) (Nat.lt_of_le_of_lt (Nat.sub_le _ _) t.isLt)) := by
  obtain ⟨n, hn⟩ := t
  cases n with
  | zero => exact absurd rfl hz
  | succ n => rfl

/-- The proof data of the region: the arrays as it finds them, and what the body leaves in each window's buffer. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB (iblk1 V c 0 t) (iblk1 V c 1 t) (iblk1 V c 2 t)
    | ⟨4, _⟩ => statsB V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outB (iblk1 V c 0 t) (iblk1 V c 1 t) (iblk1 V c 2 t) := by dsimp only [dat1]
theorem after1_4 (c : Dev nD) (t : Fin cfg1.N) : (dat1 V c).after 4 t = statsB V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- After the first point the statistics' buffer still holds what the point before left. -/
theorem before1_4 (c : Dev nD) (t : Fin cfg1.N) (hz : t.val ≠ 0) (d) :
    (dat1 V c).before 4 t d = statsB V c (t.val - 1) (Nat.lt_of_le_of_lt (Nat.sub_le _ _) t.isLt) := by
  have hN : t.val < 16 := lt_of_lt_of_eq t.isLt (show cfg1.N = 16 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4000000 in
/-- The body at any point of the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 16 := lt_of_lt_of_eq t.isLt (show cfg1.N = 16 from N_1)
  by_cases hz : t.val = 0
  · have h0 : t.val % 16 = 0 := by omega
    rw [statsB_zero V c t hz]
    iintro ⟨HΦ, Ho, ⟨%d0, H0⟩, ⟨%d1, H1⟩, ⟨%d2, H2⟩, ⟨%d3, H3⟩, ⟨%d4, H4⟩⟩
    iapply (runB_first c (grid1.coords t) _ _ _ _ _ _ _ _ _ _ ((hcondB t).mpr h0) (iblk1 V c 0 t) (iblk1 V c 1 t) (iblk1 V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h0 : ¬t.val % 16 = 0 := by omega
    rw [statsB_pos V c t hz]
    simp only [before1_4 V c t hz]
    iintro ⟨HΦ, Ho, ⟨%d0, H0⟩, ⟨%d1, H1⟩, ⟨%d2, H2⟩, ⟨%d3, H3⟩, ⟨%d4, H4⟩⟩
    iapply (runB_next c (grid1.coords t) _ _ _ _ _ _ _ _ _ _ (fun h => h0 ((hcondB t).mp h)) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row1 (t : Fin cfg1.N) :
    defs₀ (F := F) .tc cfg1.body (cfg1.bodyArgs t (cfg1.slots t)) = bodyAt1 t := by
  unfold defs₀; rw [Defs.onTc_tc]

/-- The body's triple at every point, as the launch asks for it. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Own

end
-- ==== Proof.BodyC.lean ====
module
public import proofs.«01_k».proof.Proof.RunA

@[expose] public section

set_option maxRecDepth 16384

noncomputable section
namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass C: one point of its grid, and its body at every point -/

/-- A point's block of the result: the second layer scaled, shifted and clamped at zero. -/
def outC (x0 : Vec F S1x256x4096 .f32) (x1 : Vec F S2x256 .f32) : Vec F S1x256x4096 .f32 :=
  k2_pay1 (View.ld x1 row0) (View.ld x1 row1) x0

theorem pay1C_congr {a a' b b' : Vec F S1x256 .f32} {c c' : Vec F S1x256x4096 .f32}
    (ha : a = a') (hb : b = b') (hc : c = c') : k2_pay1 a b c = k2_pay1 a' b' c' := by subst ha hb hc; rfl

set_option maxHeartbeats 4000000 in
/-- The body at a point. -/
theorem runC (c : Dev nD) (i : grid2.Coords) (arg1 : Memref sig .tc .vmem S1x256x4096 .f32) (harg1 : arg1.IsWhole) (arg2 : Memref sig .tc .vmem S2x256 .f32) (harg2 : arg2.IsWhole) (arg3 : Memref sig .tc .vmem S1x256x4096 .f32) (harg3 : arg3.IsWhole) (x0 : Vec F S1x256x4096 .f32) (x1 : Vec F S2x256 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outC x0 x1)) -∗ K ⟨⟩))
      ⊢ wp frame (wpE (defs₀ (F := F)) Variants.none c none) E (cc2__pass_c i arg1 harg1 arg2 harg2 arg3 harg3) K := by
  simp only [cc2__pass_c_eq_skeleton]; unfold cc2__pass_c_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  exact (read_whole arg3.view f2 off3_zero _ _).trans (pay1C_congr (readAt_ld harg2 x1 row0) (readAt_ld harg2 x1 row1) (readAt_whole harg1 x0 off3_zero _))

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The proof data of the region: the arrays as it finds them, and what the body leaves in each window's buffer. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outC (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outC (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point of the grid. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (runC c (grid2.coords t) _ _ _ _ _ _ (iblk2 V c 0 t) (iblk2 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

/-- The body's triple at every point, as the launch asks for it. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Own

end
-- ==== Proof.Run.lean ====
module
public import proofs.«01_k».proof.Proof.BodyA
public import proofs.«01_k».proof.Proof.BodyB
public import proofs.«01_k».proof.Proof.BodyC
public import Idealize.ShloMosaic.Lib.Pipeline.Regions
public import Idealize.ShloMosaic.Lib.Pipeline.RegionsLoop
public import Idealize.ShloMosaic.Lib.Pipeline.FrameSuffix
public import Idealize.ShloMosaic.Lib.Claim

@[expose] public section

set_option maxRecDepth 16384

noncomputable section
namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: three host stretches and three passes -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11]

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

theorem fresh0 : (hostOps0 : List (HloOp τ sig (Elt F))).Forall fun op => op.fresh = ∅ := by
  simp only [List.Forall]; repeat' constructor

/-- The buffers after host stretch 0, where pass A is entered. -/
def W1 (c : Dev nD) : Valuation τ sig (Elt F) := StableHlo.after hostOps0 (W0 m ρ c)
/-- The host stretch writes no argument. -/
theorem W1_args (c : Dev nD) : ∀ a ∈ argRefs, W1 m ρ c (Proc.devRef .tc a) = m ((c : Thread nD τ).loc a) :=
  fun a ha => (StableHlo.after_of_forall_not_mem (b := Proc.devRef .tc a) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne fun e => by subst e; revert ha; decide +kernel))).trans (W0_args m ρ c a ha)
/-- The same, at the references of the core. -/
abbrev V1 : (c : Dev nD) → (b : Ref sig .tc) → Buf (Elt F) ((c : Thread nD τ).loc b) := fun c b => W1 m ρ c b

/-- The buffers after pass A. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of the pass is left as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem fresh1 : (hostOps1 : List (HloOp τ sig (Elt F))).Forall fun op => op.fresh = ∅ := by
  simp only [List.Forall]; repeat' constructor

/-- The buffers after host stretch 1, where pass B is entered. -/
def W3 (c : Dev nD) : Valuation τ sig (Elt F) := StableHlo.after hostOps1 (W2 m ρ c)
/-- The host stretch writes no argument. -/
theorem W3_args (c : Dev nD) : ∀ a ∈ argRefs, W3 m ρ c (Proc.devRef .tc a) = m ((c : Thread nD τ).loc a) :=
  fun a ha => (StableHlo.after_of_forall_not_mem (b := Proc.devRef .tc a) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne fun e => by subst e; revert ha; decide +kernel))).trans (W2_args m ρ c a ha)
/-- The same, at the references of the core. -/
abbrev V3 : (c : Dev nD) → (b : Ref sig .tc) → Buf (Elt F) ((c : Thread nD τ).loc b) := fun c b => W3 m ρ c b

/-- The buffers after pass B. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output of the pass is left as it was. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem fresh2 : (hostOps2 : List (HloOp τ sig (Elt F))).Forall fun op => op.fresh = ∅ := by
  simp only [List.Forall]; repeat' constructor

/-- The buffers after host stretch 2, where pass C is entered. -/
def W5 (c : Dev nD) : Valuation τ sig (Elt F) := StableHlo.after hostOps2 (W4 m ρ c)
/-- The host stretch writes no argument. -/
theorem W5_args (c : Dev nD) : ∀ a ∈ argRefs, W5 m ρ c (Proc.devRef .tc a) = m ((c : Thread nD τ).loc a) :=
  fun a ha => (StableHlo.after_of_forall_not_mem (b := Proc.devRef .tc a) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne fun e => by subst e; revert ha; decide +kernel))).trans (W4_args m ρ c a ha)
/-- The same, at the references of the core. -/
abbrev V5 : (c : Dev nD) → (b : Ref sig .tc) → Buf (Elt F) ((c : Thread nD τ).loc b) := fun c b => W5 m ρ c b

/-- The buffers after pass C. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is no output of the pass is left as it was. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- No table is prefetched. -/
abbrev adm : (p : Fin 3) → (pcfgs (F := F) p).Adm := fun p => (cfgs p).toPCfg_adm
/-- Each pass's proof data at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last contents. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Pass A as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass B as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass C as a segment of the run. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The run's segments in order. -/
abbrev segs : List (Pipeline.Seg (pcfgs (F := F)) adm (pdats m ρ) () defs₀ 𝒱₀ L lv) :=
  [ .host (hseg hostOps0 hostOps0_sub fresh0 (W0 m ρ)), .region (reg0 m ρ),
    .host (hseg hostOps1 hostOps1_sub fresh1 (W2 m ρ)), .region (reg1 m ρ),
    .host (hseg hostOps2 hostOps2_sub fresh2 (W4 m ρ)), .region (reg2 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory with every counter at zero the program ends, nothing faulting; every buffer then holds the last
    contents `W6` and every counter is zero again. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The program ends, its arguments are as they were launched, and every counter is zero again. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide)),
       (h.1 c _ (mem_uc main_arg6 (by decide))).trans (W6_args m ρ c main_arg6 (by decide)),
       (h.1 c _ (mem_uc main_arg7 (by decide))).trans (W6_args m ρ c main_arg7 (by decide)),
       (h.1 c _ (mem_uc main_arg8 (by decide))).trans (W6_args m ρ c main_arg8 (by decide)),
       (h.1 c _ (mem_uc main_arg9 (by decide))).trans (W6_args m ρ c main_arg9 (by decide)),
       (h.1 c _ (mem_uc main_arg10 (by decide))).trans (W6_args m ρ c main_arg10 (by decide)),
       (h.1 c _ (mem_uc main_arg11 (by decide))).trans (W6_args m ρ c main_arg11 (by decide))⟩, h.2⟩) (run_all m ρ)

end Cert.Own

end
-- ==== Proof.Frame.lean ====
module

public import proofs.«01_k».proof.Defs
public import proofs.«01_k».proof.Proof.Run
public import proofs.«01_k».proof.Proof.Gen.Kernel
public import Idealize.ShloMosaic.Lib.Tactic

/-! # The frames of the two printed kernels

Both programs are printed from one source, and no rewriting lies between them: over the same float operations the two
programs are one. So the run proved for the idealized kernel at any floats serves the printed kernel as well. -/

@[expose] public section

noncomputable section

namespace Cert.Own

open Idealize.ShloMosaic Idealize.SL.Sem

/-- The frame of the idealized kernel, at its stated facts. -/
theorem frame_ideal : @Cert.quiescent_KernelIdeal Cert.KernelIdeal.Gen.facts := fun m g _ => frame_args (F := Ideal) m g

set_option maxHeartbeats 2000000 in
set_option maxRecDepth 16384 in
/-- The printed kernel's frame is the idealized kernel's frame read at the machine's floats. -/
theorem frame_bits_eq : @Cert.quiescent_Kernel Cert.Kernel.Gen.facts
    = (∀ (m : (ℓ : Loc Cert.KernelIdeal.nD Cert.KernelIdeal.τ Cert.KernelIdeal.sig) → Buf (Elt Bits) ℓ) (g : Dev Cert.KernelIdeal.nD → PrngReg),
        Cert.Pre_Kernel m → θ_run (Cert.KernelIdeal.defs (F := Bits)) (onTc (τ := Cert.KernelIdeal.τ) (Cert.KernelIdeal.main (F := Bits))) ⟨m, fun _ => 0, g⟩
        (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)) := by sl_kernel_rfl

/-- The frame of the printed kernel. -/
theorem frame_bits : @Cert.quiescent_Kernel Cert.Kernel.Gen.facts :=
  frame_bits_eq.mpr fun m g _ => frame_args (F := Bits) m g

end Cert.Own

end
-- ==== Proof.Mins.lean ====
module
public import Idealize.ShloMosaic.Lib.Pointwise

@[expose] public section

noncomputable section
namespace Cert.Own
open Idealize.ShloMosaic

/-- The float constants of the two programs, as extended reals. -/
abbrev inf : EReal := Ideal.ofBits .f32 0x7F800000#32
abbrev eps : EReal := Ideal.ofBits .f32 0x322BCC77#32

/-- The least of finitely many extended reals. -/
def least {n : Nat} (D : Fin n → EReal) : EReal := Finset.univ.fold min inf D

/-- The same values with every one equal to `m` raised to the top. -/
def masked {n : Nat} (D : Fin n → EReal) (m : EReal) : Fin n → EReal := fun s => if D s = m then inf else D s

/-- The three least values, each found after masking the ones before. -/
def least1 {n : Nat} (D : Fin n → EReal) : EReal := least D
def least2 {n : Nat} (D : Fin n → EReal) : EReal := least (masked D (least1 D))
def least3 {n : Nat} (D : Fin n → EReal) : EReal := least (masked (masked D (least1 D)) (least2 D))

/-- The weight of source `s`: its inverse distance over the sum of the three least's, where it is among them. -/
def weight {n : Nat} (D : Fin n → EReal) (s : Fin n) : EReal :=
  if D s ≤ least3 D then
    Ideal.div 1 (D s + eps)
      * Ideal.div 1 (Ideal.div 1 (least1 D + eps) + Ideal.div 1 (least2 D + eps) + Ideal.div 1 (least3 D + eps))
  else 0

theorem inf_eq : inf = ⊤ := by
  simp [inf, Ideal.ofBits, Ideal.ieee]

theorem least_le {n : Nat} (D : Fin n → EReal) (s : Fin n) : least D ≤ D s :=
  (Finset.le_fold_min (least D)).1 le_rfl |>.2 s (Finset.mem_univ s)

theorem least_eq {n : Nat} (D : Fin n → EReal) (a : Fin n) (h : ∀ s, D a ≤ D s) : least D = D a :=
  le_antisymm (least_le D a) ((Finset.le_fold_min (D a)).2 ⟨by rw [inf_eq]; exact le_top, fun s _ => h s⟩)

/-- Where four values stand in strict order below all the others, the three least found by masking are the first three. -/
theorem leasts {n : Nat} (D : Fin n → EReal) (a b c : Fin n) (hab : D a < D b) (hbc : D b < D c)
    (hc : ∀ s, s ≠ a → s ≠ b → s ≠ c → D c < D s) :
    least1 D = D a ∧ least2 D = D b ∧ least3 D = D c := by
  have ba : b ≠ a := fun e => by rw [e] at hab; exact lt_irrefl _ hab
  have ca : c ≠ a := fun e => by rw [e] at hbc; exact lt_irrefl _ (hab.trans hbc)
  have cb : c ≠ b := fun e => by rw [e] at hbc; exact lt_irrefl _ hbc
  have h1 : least1 D = D a := least_eq D a fun s => by
    by_cases e1 : s = a
    · rw [e1]
    by_cases e2 : s = b
    · rw [e2]; exact hab.le
    by_cases e3 : s = c
    · rw [e3]; exact (hab.trans hbc).le
    exact (hab.trans (hbc.trans (hc s e1 e2 e3))).le
  have m1 : ∀ s, s ≠ a → masked D (D a) s = D s := fun s hs => by
    unfold masked
    rw [if_neg]
    intro e
    by_cases e2 : s = b
    · rw [e2] at e; exact absurd e hab.ne'
    by_cases e3 : s = c
    · rw [e3] at e; exact absurd e (hab.trans hbc).ne'
    exact absurd e (hab.trans (hbc.trans (hc s hs e2 e3))).ne'
  have m1a : masked D (D a) a = ⊤ := by unfold masked; rw [if_pos rfl, inf_eq]
  have h2 : least2 D = D b := by
    unfold least2
    rw [h1, least_eq _ b, m1 b ba]
    intro s
    rw [m1 b ba]
    by_cases e1 : s = a
    · rw [e1, m1a]; exact le_top
    rw [m1 s e1]
    by_cases e2 : s = b
    · rw [e2]
    by_cases e3 : s = c
    · rw [e3]; exact hbc.le
    exact (hbc.trans (hc s e1 e2 e3)).le
  refine ⟨h1, h2, ?_⟩
  have m2 : ∀ s, s ≠ a → s ≠ b → masked (masked D (D a)) (D b) s = D s := fun s hs hs' => by
    have : masked (masked D (D a)) (D b) s = if masked D (D a) s = D b then inf else masked D (D a) s := rfl
    rw [this, m1 s hs, if_neg]
    intro e
    by_cases e3 : s = c
    · rw [e3] at e; exact absurd e hbc.ne'
    exact absurd e (hbc.trans (hc s hs hs' e3)).ne'
  have m2b : masked (masked D (D a)) (D b) b = ⊤ := by
    have : masked (masked D (D a)) (D b) b = if masked D (D a) b = D b then inf else masked D (D a) b := rfl
    rw [this, if_pos (m1 b ba), inf_eq]
  have m2a : masked (masked D (D a)) (D b) a = ⊤ := by
    have : masked (masked D (D a)) (D b) a = if masked D (D a) a = D b then inf else masked D (D a) a := rfl
    rw [this, m1a, inf_eq, ite_self]
  unfold least3
  rw [h1, h2, least_eq _ c, m2 c ca cb]
  intro s
  rw [m2 c ca cb]
  by_cases e1 : s = a
  · rw [e1, m2a]; exact le_top
  by_cases e2 : s = b
  · rw [e2, m2b]; exact le_top
  rw [m2 s e1 e2]
  by_cases e3 : s = c
  · rw [e3]
  exact (hc s e1 e2 e3).le

/-- A sum against the weights has the three nearest sources' terms alone. -/
theorem sum_weight {n : Nat} (D p : Fin n → EReal) (a b c : Fin n) (hab : D a < D b) (hbc : D b < D c)
    (hc : ∀ s, s ≠ a → s ≠ b → s ≠ c → D c < D s) (N : EReal)
    (hN : N = Ideal.div 1 (Ideal.div 1 (D a + eps) + Ideal.div 1 (D b + eps) + Ideal.div 1 (D c + eps))) :
    ∑ s, p s * weight D s = p a * (Ideal.div 1 (D a + eps) * N) + p b * (Ideal.div 1 (D b + eps) * N)
      + p c * (Ideal.div 1 (D c + eps) * N) := by
  obtain ⟨h1, h2, h3⟩ := leasts D a b c hab hbc hc
  have ba : b ≠ a := fun e => by rw [e] at hab; exact lt_irrefl _ hab
  have ca : c ≠ a := fun e => by rw [e] at hbc; exact lt_irrefl _ (hab.trans hbc)
  have cb : c ≠ b := fun e => by rw [e] at hbc; exact lt_irrefl _ hbc
  have hw : ∀ s, D s ≤ D c → weight D s = Ideal.div 1 (D s + eps) * N := fun s hs => by
    unfold weight
    rw [h1, h2, h3, if_pos hs, hN]
  have hz : ∀ s, s ≠ a → s ≠ b → s ≠ c → weight D s = 0 := fun s ha hb hc' => by
    unfold weight
    rw [h3, if_neg (not_le.2 (hc s ha hb hc'))]
  have hs : ∑ s, p s * weight D s = ∑ s ∈ ({a, b, c} : Finset (Fin n)), p s * weight D s := by
    symm
    refine Finset.sum_subset (Finset.subset_univ _) fun s _ hs => ?_
    simp only [Finset.mem_insert, Finset.mem_singleton, not_or] at hs
    rw [hz s hs.1 hs.2.1 hs.2.2, mul_zero]
  rw [hs, Finset.sum_insert (by simp [ba.symm, ca.symm]), Finset.sum_insert (by simp [cb.symm]), Finset.sum_singleton,
    hw a (hab.trans hbc).le, hw b hbc.le, hw c le_rfl, add_assoc]

end Cert.Own
-- ==== Proof.PayA.lean ====
module
public import proofs.«01_k».proof.Proof.RunA
public import proofs.«01_k».proof.Proof.Mins
public import Idealize.ShloMosaic.Lib.Pointwise

@[expose] public section

set_option maxRecDepth 16384

noncomputable section
namespace Cert.Own

open Cert.KernelIdeal Cert.KernelIdeal.Gen
open Idealize.ShloMosaic

/-- The product of the interpolating half of the weights with the points, at one element. -/
theorem projA_at (x3 : FVec Ideal S1x512x1024 .f32) (x4 : FVec Ideal S256x768 .f32) (o : Fin 256) (s : Fin 1024) :
    projA (F := Ideal) x3 x4 (ix2 o s)
      = ∑ k : Fin 512, x4 (ix2 o ⟨256 + k.val, by omega⟩) * x3 (ix3 0 k s) := by
  unfold projA wRight
  pointwise [k0_pay1]

/-- The squared distance of target `j` from source `s`, as the pass computes it from its blocks. -/
def distK (x0 : FVec Ideal S1x1024x3 .f32) (x1 : FVec Ideal S1x3x1024 .f32) (j s : Fin 1024) : EReal :=
  Ideal.ofBits .f32 0xC0000000#32 * (∑ c : Fin 3, x0 (ix3 0 j c) * x1 (ix3 0 c s))
    + (x0 (ix3 0 j 0) * x0 (ix3 0 j 0) + x0 (ix3 0 j 1) * x0 (ix3 0 j 1) + x0 (ix3 0 j 2) * x0 (ix3 0 j 2))
    + (x1 (ix3 0 0 s) * x1 (ix3 0 0 s) + x1 (ix3 0 1 s) * x1 (ix3 0 1 s) + x1 (ix3 0 2 s) * x1 (ix3 0 2 s))

theorem pay8_at (v9 v46 : FVec Ideal S1024x1024 .f32) (v27 : FVec Ideal S1024x1 .f32) (v45 : FVec Ideal S1x1024 .f32)
    (j s : Fin 1024) :
    k0_pay8 (F := Ideal) v9 v27 v45 v46 (ix2 j s)
      = weight (fun s : Fin 1024 => v46 (ix2 j s) * v9 (ix2 j s) + v27 (ix2 j 0) + v45 (ix2 0 s)) s := by
  pointwise [k0_pay8]
  rfl

/-- The pass's weights at one element: the weights of the target's row of distances. -/
theorem wtA_at (x0 : FVec Ideal S1x1024x3 .f32) (x1 : FVec Ideal S1x3x1024 .f32) (j s : Fin 1024) :
    wtA (F := Ideal) x0 x1 (ix2 j s) = weight (distK x0 x1 j) s := by
  unfold wtA
  rw [pay8_at]
  congr 1
  funext s
  unfold distK
  pointwise [k0_pay4, k0_pay5, k0_pay6, k0_pay7, k0_pay2, k0_pay3]

/-- The pass's block before its stores: the direct half's product plus the interpolated half's. -/
theorem pay9_at (w : FVec Ideal S1024x1024 .f32) (w0 : FVec Ideal S256x256 .f32) (x2 : FVec Ideal S1x256x1024 .f32)
    (p : FVec Ideal S256x1024 .bf16) (o : Fin 256) (j : Fin 1024) :
    k0_pay9 (F := Ideal) w w0 x2 p (ix2 o j)
      = ∑ q : Fin 256, w0 (ix2 o q) * x2 (ix3 0 q j) + ∑ s : Fin 1024, p (ix2 o s) * w (ix2 j s) := by
  pointwise [k0_pay9]

/-- One element of the first layer as the pass computes it: from its blocks and the projected points. -/
def elemA (x0 : FVec Ideal S1x1024x3 .f32) (x1 : FVec Ideal S1x3x1024 .f32) (x2 : FVec Ideal S1x256x1024 .f32)
    (x4 : FVec Ideal S256x768 .f32) (p : FVec Ideal S256x1024 .bf16) (o : Fin 256) (j : Fin 1024) : EReal :=
  ∑ q : Fin 256, x4 (ix2 o ⟨q.val, by omega⟩) * x2 (ix3 0 q j) + ∑ s : Fin 1024, p (ix2 o s) * weight (distK x0 x1 j) s

theorem pay9_elem (x0 : FVec Ideal S1x1024x3 .f32) (x1 : FVec Ideal S1x3x1024 .f32) (x2 : FVec Ideal S1x256x1024 .f32)
    (x4 : FVec Ideal S256x768 .f32) (p : FVec Ideal S256x1024 .bf16) (o : Fin 256) (j : Fin 1024) :
    k0_pay9 (F := Ideal) (wtA (F := Ideal) x0 x1) (wLeft (F := Ideal) x4) x2 p (ix2 o j) = elemA x0 x1 x2 x4 p o j := by
  rw [pay9_at]
  unfold elemA wLeft
  refine congrArg₂ (· + ·) (Finset.sum_congr rfl fun q _ => ?_) (Finset.sum_congr rfl fun s _ => ?_)
  · pointwise
  · rw [wtA_at]

/-- The first output's block, read at an element. -/
theorem outA_at (x0 : FVec Ideal S1x1024x3 .f32) (x1 : FVec Ideal S1x3x1024 .f32) (x2 : FVec Ideal S1x256x1024 .f32)
    (x4 : FVec Ideal S256x768 .f32) (p : FVec Ideal S256x1024 .bf16) (o : Fin 256) (j : Fin 1024) :
    outA (F := Ideal) x0 x1 x2 x4 p (ix3 0 o j) = elemA x0 x1 x2 x4 p o j := by
  unfold outA
  refine Eq.trans ?_ (pay9_elem x0 x1 x2 x4 p o j)
  pointwise [k0_pay10]

/-- The running sums after one more block: the first row gains the block's sums. -/
theorem statA_at0 (x0 : FVec Ideal S1x1024x3 .f32) (x1 : FVec Ideal S1x3x1024 .f32) (x2 : FVec Ideal S1x256x1024 .f32)
    (x4 : FVec Ideal S256x768 .f32) (p : FVec Ideal S256x1024 .bf16) (s : FVec Ideal S2x256 .f32) (o : Fin 256) :
    statA (F := Ideal) x0 x1 x2 x4 p s (ix2 0 o) = s (ix2 0 o) + ∑ j : Fin 1024, elemA x0 x1 x2 x4 p o j := by
  have e : statA (F := Ideal) x0 x1 x2 x4 p s (ix2 0 o)
      = k0_pay12 (F := Ideal) (wtA (F := Ideal) x0 x1) (wLeft (F := Ideal) x4) x2 p (View.ld (Val := Elt Ideal) s row0) (ix2 0 o) := rfl
  rw [e]
  simp only [← pay9_elem]
  pointwise [k0_pay12, row0]

/-- ... and the second row the sums of the squares. -/
theorem statA_at1 (x0 : FVec Ideal S1x1024x3 .f32) (x1 : FVec Ideal S1x3x1024 .f32) (x2 : FVec Ideal S1x256x1024 .f32)
    (x4 : FVec Ideal S256x768 .f32) (p : FVec Ideal S256x1024 .bf16) (s : FVec Ideal S2x256 .f32) (o : Fin 256) :
    statA (F := Ideal) x0 x1 x2 x4 p s (ix2 1 o)
      = s (ix2 1 o) + ∑ j : Fin 1024, elemA x0 x1 x2 x4 p o j * elemA x0 x1 x2 x4 p o j := by
  have e : statA (F := Ideal) x0 x1 x2 x4 p s (ix2 1 o)
      = k0_pay13 (F := Ideal) (wtA (F := Ideal) x0 x1) (wLeft (F := Ideal) x4) x2 p (View.ld (Val := Elt Ideal) s row1) (ix2 0 o) := rfl
  rw [e]
  simp only [← pay9_elem]
  pointwise [k0_pay13, row1]

theorem pay11_at (r : Fin 2) (o : Fin 256) : k0_pay11 (F := Ideal) (ix2 r o) = 0 := by
  pointwise [k0_pay11]
end Cert.Own
-- ==== Proof.Sums.lean ====
module
public import Mathlib.Algebra.BigOperators.Fin
public import Mathlib.Logic.Equiv.Fin.Basic
public import Mathlib.Tactic.Ring

@[expose] public section

namespace Cert.Own

theorem block_lt {a b n : ℕ} (h : a * b = n) (k : Fin a) (j : Fin b) : b * k.val + j.val < n := by
  subst h
  calc b * k.val + j.val < b * k.val + b := Nat.add_lt_add_left j.isLt _
    _ = b * (k.val + 1) := (Nat.mul_succ b k.val).symm
    _ ≤ b * a := Nat.mul_le_mul_left _ k.isLt
    _ = a * b := Nat.mul_comm _ _

/-- A sum over `a * b` places, taken block by block. -/
theorem sum_blocks {M : Type*} [AddCommMonoid M] {a b n : ℕ} (h : a * b = n) (f : Fin n → M) :
    ∑ i, f i = ∑ k : Fin a, ∑ j : Fin b, f ⟨b * k.val + j.val, block_lt h k j⟩ := by
  subst h
  rw [← finProdFinEquiv.sum_comp, Fintype.sum_prod_type]
  refine Finset.sum_congr rfl fun k _ => Finset.sum_congr rfl fun j _ => congrArg f (Fin.ext ?_)
  simp [finProdFinEquiv, Nat.add_comm]

/-- A running total is the sum of what its steps added. -/
theorem running_total {M : Type*} [AddCommMonoid M] {N : ℕ} (s : (n : ℕ) → n < N → M) (f : Fin N → M)
    (h0 : ∀ h : 0 < N, s 0 h = f ⟨0, h⟩) (hs : ∀ n (h : n + 1 < N), s (n + 1) h = s n (Nat.lt_of_succ_lt h) + f ⟨n + 1, h⟩) :
    ∀ n (h : n < N), s n h = ∑ i : Fin (n + 1), f ⟨i.val, lt_of_le_of_lt (Nat.le_of_lt_succ i.isLt) h⟩ := by
  intro n
  induction n with
  | zero => intro h; rw [h0]; simp
  | succ n ih =>
    intro h
    rw [hs, ih, Fin.sum_univ_castSucc (n := n + 1)]
    rfl
end Cert.Own
-- ==== Proof.ArrA.lean ====
module
public import proofs.«01_k».proof.Proof.PayA
public import proofs.«01_k».proof.Proof.BodyA
public import proofs.«01_k».proof.Proof.Sums
public import Idealize.ShloMosaic.Lib.Pipeline.Value

@[expose] public section

set_option maxRecDepth 16384

noncomputable section
namespace Cert.Own

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Pass A's point for batch `b` and block `k` of the targets. -/
def ptA (b : Fin 8) (k : Fin 4) : Fin cfg0.N := ⟨4 * b.val + k.val, lt_of_lt_of_eq (by omega) N_0.symm⟩
/-- Target `j` of block `k`. -/
def colA (k : Fin 4) (j : Fin 1024) : Fin 4096 := ⟨1024 * k.val + j.val, by omega⟩

theorem index0_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

theorem block0_0 (c : Dev nD) (b : Fin 8) (k : Fin 4) (j : Fin 1024) (a : Fin 3) :
    (iblk0 V c 0 (ptA b k) : FVec Ideal S1x1024x3 .f32) (ix3 0 j a) = (V c main_v0 : FVec Ideal S8x4096x3 .f32) (ix3 b (colA k j) a) := by
  have e := index0_0 (ptA b k)
  have hv : (ptA b k).val = 4 * b.val + k.val := rfl
  have hb := b.isLt
  have hk := k.isLt
  show (V c main_v0 : FVec Ideal S8x4096x3 .f32) (((cfg0.win 0).blk (ptA b k)).view.emb (ix3 0 j a : S1x1024x3.Idx)) = _
  refine congrArg _ (funext fun a' => Fin.ext ?_)
  match a' with
  | ⟨0, _⟩ => show win0_0.index (ptA b k) (0 : Fin 3) * 1 + 1 * 0 = b.val; rw [e.1, hv]; omega
  | ⟨1, _⟩ => show win0_0.index (ptA b k) (1 : Fin 3) * 1024 + 1 * j.val = (1024 * k.val + j.val); rw [e.2.1, hv]; omega
  | ⟨2, _⟩ => show win0_0.index (ptA b k) (2 : Fin 3) * 3 + 1 * a.val = a.val; rw [e.2.2]; omega

theorem index0_1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem block0_1 (c : Dev nD) (b : Fin 8) (k : Fin 4) (a : Fin 3) (s : Fin 1024) :
    (iblk0 V c 1 (ptA b k) : FVec Ideal S1x3x1024 .f32) (ix3 0 a s) = (V c main_arg1 : FVec Ideal S8x3x1024 .f32) (ix3 b a s) := by
  have e := index0_1 (ptA b k)
  have hv : (ptA b k).val = 4 * b.val + k.val := rfl
  have hb := b.isLt
  have hk := k.isLt
  show (V c main_arg1 : FVec Ideal S8x3x1024 .f32) (((cfg0.win 1).blk (ptA b k)).view.emb (ix3 0 a s : S1x3x1024.Idx)) = _
  refine congrArg _ (funext fun a' => Fin.ext ?_)
  match a' with
  | ⟨0, _⟩ => show win0_1.index (ptA b k) (0 : Fin 3) * 1 + 1 * 0 = b.val; rw [e.1, hv]; omega
  | ⟨1, _⟩ => show win0_1.index (ptA b k) (1 : Fin 3) * 3 + 1 * a.val = a.val; rw [e.2.1]; omega
  | ⟨2, _⟩ => show win0_1.index (ptA b k) (2 : Fin 3) * 1024 + 1 * s.val = s.val; rw [e.2.2]; omega

theorem index0_2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)

theorem block0_2 (c : Dev nD) (b : Fin 8) (k : Fin 4) (q : Fin 256) (j : Fin 1024) :
    (iblk0 V c 2 (ptA b k) : FVec Ideal S1x256x1024 .f32) (ix3 0 q j) = (V c main_arg2 : FVec Ideal S8x256x4096 .f32) (ix3 b q (colA k j)) := by
  have e := index0_2 (ptA b k)
  have hv : (ptA b k).val = 4 * b.val + k.val := rfl
  have hb := b.isLt
  have hk := k.isLt
  show (V c main_arg2 : FVec Ideal S8x256x4096 .f32) (((cfg0.win 2).blk (ptA b k)).view.emb (ix3 0 q j : S1x256x1024.Idx)) = _
  refine congrArg _ (funext fun a' => Fin.ext ?_)
  match a' with
  | ⟨0, _⟩ => show win0_2.index (ptA b k) (0 : Fin 3) * 1 + 1 * 0 = b.val; rw [e.1, hv]; omega
  | ⟨1, _⟩ => show win0_2.index (ptA b k) (1 : Fin 3) * 256 + 1 * q.val = q.val; rw [e.2.1]; omega
  | ⟨2, _⟩ => show win0_2.index (ptA b k) (2 : Fin 3) * 1024 + 1 * j.val = (1024 * k.val + j.val); rw [e.2.2, hv]; omega

theorem index0_3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

theorem block0_3 (c : Dev nD) (b : Fin 8) (k : Fin 4) (r : Fin 512) (s : Fin 1024) :
    (iblk0 V c 3 (ptA b k) : FVec Ideal S1x512x1024 .f32) (ix3 0 r s) = (V c main_arg3 : FVec Ideal S8x512x1024 .f32) (ix3 b r s) := by
  have e := index0_3 (ptA b k)
  have hv : (ptA b k).val = 4 * b.val + k.val := rfl
  have hb := b.isLt
  have hk := k.isLt
  show (V c main_arg3 : FVec Ideal S8x512x1024 .f32) (((cfg0.win 3).blk (ptA b k)).view.emb (ix3 0 r s : S1x512x1024.Idx)) = _
  refine congrArg _ (funext fun a' => Fin.ext ?_)
  match a' with
  | ⟨0, _⟩ => show win0_3.index (ptA b k) (0 : Fin 3) * 1 + 1 * 0 = b.val; rw [e.1, hv]; omega
  | ⟨1, _⟩ => show win0_3.index (ptA b k) (1 : Fin 3) * 512 + 1 * r.val = r.val; rw [e.2.1]; omega
  | ⟨2, _⟩ => show win0_3.index (ptA b k) (2 : Fin 3) * 1024 + 1 * s.val = s.val; rw [e.2.2]; omega

theorem index0_4 : ∀ t : Fin cfg0.N, win0_4.index t (0 : Fin 2) = 0 ∧ win0_4.index t (1 : Fin 2) = 0 :=
  (by decide +kernel : ∀ t : Fin grid0.N, _)

theorem block0_4 (c : Dev nD) (b : Fin 8) (k : Fin 4) (o : Fin 256) (q : Fin 768) :
    (iblk0 V c 4 (ptA b k) : FVec Ideal S256x768 .f32) (ix2 o q) = (V c main_arg4 : FVec Ideal S256x768 .f32) (ix2 o q) := by
  have e := index0_4 (ptA b k)
  have hv : (ptA b k).val = 4 * b.val + k.val := rfl
  have hb := b.isLt
  have hk := k.isLt
  show (V c main_arg4 : FVec Ideal S256x768 .f32) (((cfg0.win 4).blk (ptA b k)).view.emb (ix2 o q : S256x768.Idx)) = _
  refine congrArg _ (funext fun a' => Fin.ext ?_)
  match a' with
  | ⟨0, _⟩ => show win0_4.index (ptA b k) (0 : Fin 2) * 256 + 1 * o.val = o.val; rw [e.1]; omega
  | ⟨1, _⟩ => show win0_4.index (ptA b k) (1 : Fin 2) * 768 + 1 * q.val = q.val; rw [e.2]; omega

/-- The squared distance of target `n` from source `s` of batch `b`, as the pass computes it from the arrays. -/
def distArr (X0 : FVec Ideal S8x4096x3 .f32) (X1 : FVec Ideal S8x3x1024 .f32) (b : Fin 8) (n : Fin 4096) (s : Fin 1024) : EReal :=
  Ideal.ofBits .f32 0xC0000000#32 * (∑ c : Fin 3, X0 (ix3 b n c) * X1 (ix3 b c s))
    + (X0 (ix3 b n 0) * X0 (ix3 b n 0) + X0 (ix3 b n 1) * X0 (ix3 b n 1) + X0 (ix3 b n 2) * X0 (ix3 b n 2))
    + (X1 (ix3 b 0 s) * X1 (ix3 b 0 s) + X1 (ix3 b 1 s) * X1 (ix3 b 1 s) + X1 (ix3 b 2 s) * X1 (ix3 b 2 s))

/-- The first layer before its normalisation, as pass A computes it from the arrays. -/
def layerA (X0 : FVec Ideal S8x4096x3 .f32) (X1 : FVec Ideal S8x3x1024 .f32) (X2 : FVec Ideal S8x256x4096 .f32)
    (X3 : FVec Ideal S8x512x1024 .f32) (X4 : FVec Ideal S256x768 .f32) (b : Fin 8) (o : Fin 256) (n : Fin 4096) : EReal :=
  ∑ q : Fin 256, X4 (ix2 o ⟨q.val, by omega⟩) * X2 (ix3 b q n)
    + ∑ s : Fin 1024, (∑ r : Fin 512, X4 (ix2 o ⟨256 + r.val, by omega⟩) * X3 (ix3 b r s)) * weight (distArr X0 X1 b n) s

/-- The first layer of the arrays the pass finds. -/
abbrev layerAt (c : Dev nD) (b : Fin 8) (o : Fin 256) (n : Fin 4096) : EReal :=
  layerA (V c main_v0) (V c main_arg1) (V c main_arg2) (V c main_arg3) (V c main_arg4) b o n

/-- What the pass computes at one element of its block is the first layer there. -/
theorem elemA_block (c : Dev nD) (b : Fin 8) (k : Fin 4) (o : Fin 256) (j : Fin 1024) :
    elemA (iblk0 V c 0 (ptA b k)) (iblk0 V c 1 (ptA b k)) (iblk0 V c 2 (ptA b k)) (iblk0 V c 4 (ptA b k)) (projAt V c (ptA b k)) o j
      = layerAt V c b o (colA k j) := by
  unfold layerAt elemA layerA projAt
  refine congrArg₂ (· + ·) (Finset.sum_congr rfl fun q _ => ?_) (Finset.sum_congr rfl fun s _ => ?_)
  · rw [block0_2, block0_4]
  · rw [projA_at]
    refine congrArg₂ (· * ·) (Finset.sum_congr rfl fun r _ => ?_) ?_
    · rw [block0_3, block0_4]
    · refine congrFun (congrArg weight (funext fun s => ?_)) s
      unfold distK distArr
      simp only [block0_0, block0_1]

theorem index0_5 : ∀ t : Fin cfg0.N, win0_5.index t (0 : Fin 3) = t.val / 4 ∧ win0_5.index t (1 : Fin 3) = 0 ∧ win0_5.index t (2 : Fin 3) = t.val % 4 :=
  (by decide +kernel : ∀ t : Fin grid0.N, _)

/-- The first output's block at a point, read at an index. -/
theorem outA_block (c : Dev nD) (b : Fin 8) (k : Fin 4) (y : S1x256x1024.Idx) :
    outA (F := Ideal) (iblk0 V c 0 (ptA b k)) (iblk0 V c 1 (ptA b k)) (iblk0 V c 2 (ptA b k)) (iblk0 V c 4 (ptA b k))
        (projAt V c (ptA b k)) y
      = layerAt V c b (y 1) (colA k (y 2)) := by
  have hy : y = ix3 0 (y 1) (y 2) := by
    funext a
    match a with
    | ⟨0, _⟩ => exact Subsingleton.elim (α := Fin 1) _ _
    | ⟨1, _⟩ => rfl
    | ⟨2, _⟩ => rfl
  exact (congrArg _ hy).trans ((outA_at _ _ _ _ _ (y 1) (y 2)).trans (elemA_block V c b k (y 1) (y 2)))

theorem mem_blk0_5 (t : Fin cfg0.N) (i : S8x256x4096.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v1_0).slice (win0_5.rect t)).set ↔ _
  rw [View.set_slice_whole, Rect.mem_set_unit]
  exact Iff.rfl

theorem cover0_5 (i : S8x256x4096.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 4096 := (i 2).isLt
  obtain ⟨b, hb⟩ : ∃ b : Fin 8, b.val = (i 0).val := ⟨⟨_, h0⟩, rfl⟩
  obtain ⟨k, hk⟩ : ∃ k : Fin 4, k.val = (i 2).val / 1024 := ⟨⟨(i 2).val / 1024, by omega⟩, rfl⟩
  refine ⟨ptA b k, flush0_5 _, ?_⟩
  have e := index0_5 (ptA b k)
  have hv : (ptA b k).val = 4 * b.val + k.val := rfl
  have hk4 := k.isLt
  rw [mem_blk0_5]
  intro a
  match a with
  | ⟨0, _⟩ =>
    show win0_5.index (ptA b k) (0 : Fin 3) * 1 ≤ (i 0).val ∧ (i 0).val < win0_5.index (ptA b k) (0 : Fin 3) * 1 + 1
    rw [e.1, hv]; omega
  | ⟨1, _⟩ =>
    show win0_5.index (ptA b k) (1 : Fin 3) * 256 ≤ (i 1).val ∧ (i 1).val < win0_5.index (ptA b k) (1 : Fin 3) * 256 + 256
    rw [e.2.1]; omega
  | ⟨2, _⟩ =>
    show win0_5.index (ptA b k) (2 : Fin 3) * 1024 ≤ (i 2).val ∧ (i 2).val < win0_5.index (ptA b k) (2 : Fin 3) * 1024 + 1024
    rw [e.2.2, hv]; omega

/-- The array of the first layer when the pass is over. -/
theorem arrA5 (c : Dev nD) :
    (dat0 V c).arrAt 5 cfg0.N = fun i : S8x256x4096.Idx => layerAt V c (i 0) (i 1) (i 2) := by
  refine (dat0 V c).arrAt_eq_of_cover 5 _ (fun t hf => ?_) cover0_5
  have ht : t.val < 32 := Nat.lt_of_lt_of_eq t.isLt N_0
  obtain ⟨b, k, rfl⟩ : ∃ b k, t = ptA b k :=
    ⟨⟨t.val / 4, by omega⟩, ⟨t.val % 4, by omega⟩, Fin.ext (by show t.val = 4 * (t.val / 4) + t.val % 4; omega)⟩
  have e := index0_5 (ptA b k)
  have hv : (ptA b k).val = 4 * b.val + k.val := rfl
  have hb := b.isLt
  have hk := k.isLt
  show (cfg0.win 5).cut (grid0.coords (ptA b k)) ((dat0 V c).after 5 (ptA b k)) = _
  rw [after0_5]
  funext y
  refine (outA_block V c b k (y : S1x256x1024.Idx)).trans ?_
  have e0 : ((cfg0.win 5).blk (ptA b k)).view.emb y (0 : Fin 3) = b := Fin.ext (by
    show win0_5.index (ptA b k) (0 : Fin 3) * 1 + 1 * (y 0).val = _
    have : (y 0).val < 1 := (y 0).isLt
    rw [e.1, hv]; omega)
  have e1 : ((cfg0.win 5).blk (ptA b k)).view.emb y (1 : Fin 3) = y 1 := Fin.ext (by
    show win0_5.index (ptA b k) (1 : Fin 3) * 256 + 1 * (y 1).val = _
    rw [e.2.1]; omega)
  have e2 : ((cfg0.win 5).blk (ptA b k)).view.emb y (2 : Fin 3) = colA k (y 2) := Fin.ext (by
    show win0_5.index (ptA b k) (2 : Fin 3) * 1024 + 1 * (y 2).val = 1024 * k.val + (y 2).val
    rw [e.2.2, hv]; omega)
  show _ = layerAt V c (((cfg0.win 5).blk (ptA b k)).view.emb y (0 : Fin 3)) (((cfg0.win 5).blk (ptA b k)).view.emb y (1 : Fin 3))
          (((cfg0.win 5).blk (ptA b k)).view.emb y (2 : Fin 3))
  rw [e0, e1, e2]

/-- The first row of the statistics after the last point: the sum of the first layer over batches and targets. -/
theorem sumsA0 (c : Dev nD) (o : Fin 256) (h : 31 < cfg0.N) :
    (statsA V c 31 h : FVec Ideal S2x256 .f32) (ix2 0 o) = ∑ b : Fin 8, ∑ n : Fin 4096, layerAt V c b o n := by
  have tot := running_total (N := cfg0.N) (fun n h => (statsA V c n h : FVec Ideal S2x256 .f32) (ix2 0 o))
    (fun t => ∑ j : Fin 1024, elemA (iblk0 V c 0 t) (iblk0 V c 1 t) (iblk0 V c 2 t) (iblk0 V c 4 t) (projAt V c t) o j)
    (fun h => by
      refine (statA_at0 _ _ _ _ _ _ o).trans ?_
      rw [pay11_at, zero_add])
    (fun n h => statA_at0 _ _ _ _ _ _ o) 31 h
  refine tot.trans ?_
  refine (sum_blocks (a := 8) (b := 4) (n := 32) rfl _).trans ?_
  refine Finset.sum_congr rfl fun b _ => ?_
  refine Eq.trans ?_ (sum_blocks (a := 4) (b := 1024) (n := 4096) rfl (fun n => layerAt V c b o n)).symm
  refine Finset.sum_congr rfl fun k _ => Finset.sum_congr rfl fun j _ => ?_
  have e := elemA_block V c b k o j
  exact e

/-- The second row of the statistics after the last point: the sum of the squares of the first layer over batches and targets. -/
theorem sumsA1 (c : Dev nD) (o : Fin 256) (h : 31 < cfg0.N) :
    (statsA V c 31 h : FVec Ideal S2x256 .f32) (ix2 1 o) = ∑ b : Fin 8, ∑ n : Fin 4096, layerAt V c b o n * layerAt V c b o n := by
  have tot := running_total (N := cfg0.N) (fun n h => (statsA V c n h : FVec Ideal S2x256 .f32) (ix2 1 o))
    (fun t => ∑ j : Fin 1024, elemA (iblk0 V c 0 t) (iblk0 V c 1 t) (iblk0 V c 2 t) (iblk0 V c 4 t) (projAt V c t) o j * elemA (iblk0 V c 0 t) (iblk0 V c 1 t) (iblk0 V c 2 t) (iblk0 V c 4 t) (projAt V c t) o j)
    (fun h => by
      refine (statA_at1 _ _ _ _ _ _ o).trans ?_
      rw [pay11_at, zero_add])
    (fun n h => statA_at1 _ _ _ _ _ _ o) 31 h
  refine tot.trans ?_
  refine (sum_blocks (a := 8) (b := 4) (n := 32) rfl _).trans ?_
  refine Finset.sum_congr rfl fun b _ => ?_
  refine Eq.trans ?_ (sum_blocks (a := 4) (b := 1024) (n := 4096) rfl (fun n => layerAt V c b o n * layerAt V c b o n)).symm
  refine Finset.sum_congr rfl fun k _ => Finset.sum_congr rfl fun j _ => ?_
  have e := elemA_block V c b k o j
  exact congrArg₂ (· * ·) e e

theorem index0_6 : ∀ t : Fin cfg0.N, win0_6.index t (0 : Fin 2) = 0 ∧ win0_6.index t (1 : Fin 2) = 0 :=
  (by decide +kernel : ∀ t : Fin grid0.N, _)

theorem mem0_6 (h : 31 < cfg0.N) (i : S2x256.Idx) : i ∈ ((cfg0.win 6).blk ⟨31, h⟩).view.set := by
  have h0 : (i 0).val < 2 := (i 0).isLt
  have h1 : (i 1).val < 256 := (i 1).isLt
  have e := index0_6 ⟨31, h⟩
  show i ∈ ((View.whole main_v1_1).slice (win0_6.rect ⟨31, h⟩)).set
  rw [View.set_slice_whole, Rect.mem_set_unit]
  intro a
  match a with
  | ⟨0, _⟩ =>
    show win0_6.index ⟨31, h⟩ (0 : Fin 2) * 2 ≤ (i 0).val ∧ (i 0).val < win0_6.index ⟨31, h⟩ (0 : Fin 2) * 2 + 2
    rw [e.1]; omega
  | ⟨1, _⟩ =>
    show win0_6.index ⟨31, h⟩ (1 : Fin 2) * 256 ≤ (i 1).val ∧ (i 1).val < win0_6.index ⟨31, h⟩ (1 : Fin 2) * 256 + 256
    rw [e.2]; omega

/-- The array of the statistics when the pass is over. -/
theorem arrA6 (c : Dev nD) (h : 31 < cfg0.N) :
    (dat0 V c).arrAt 6 cfg0.N = (statsA V c 31 h : FVec Ideal S2x256 .f32) := by
  have last : ∀ t : Fin cfg0.N, (cfg0.win 6).flush t = true → t = ⟨31, h⟩ := fun t hf => Fin.ext (by
    have ht : t.val < 32 := Nat.lt_of_lt_of_eq t.isLt N_0
    have := (flush0_6 t).mp hf
    show t.val = 31
    omega)
  refine (dat0 V c).arrAt_eq_of_cover 6 _ (fun t hf => ?_) (fun i => ⟨⟨31, h⟩, (flush0_6 _).mpr (by show 31 % 32 = 31; rfl), mem0_6 h i⟩)
  obtain rfl := last t hf
  have e := index0_6 ⟨31, h⟩
  show (cfg0.win 6).cut (grid0.coords ⟨31, h⟩) ((dat0 V c).after 6 ⟨31, h⟩) = _
  rw [after0_6]
  funext y
  show (statsA V c 31 h : FVec Ideal S2x256 .f32) (y : S2x256.Idx)
    = (statsA V c 31 h : FVec Ideal S2x256 .f32) (((cfg0.win 6).blk ⟨31, h⟩).view.emb y)
  refine congrArg _ (funext fun a => Fin.ext ?_)
  match a with
  | ⟨0, _⟩ => show (y 0).val = win0_6.index ⟨31, h⟩ (0 : Fin 2) * 2 + 1 * (y 0).val; rw [e.1]; omega
  | ⟨1, _⟩ => show (y 1).val = win0_6.index ⟨31, h⟩ (1 : Fin 2) * 256 + 1 * (y 1).val; rw [e.2]; omega
end Cert.Own
-- ==== Proof.PayBC.lean ====
module
public import proofs.«01_k».proof.Proof.BodyB
public import proofs.«01_k».proof.Proof.BodyC
public import Idealize.ShloMosaic.Lib.Pointwise

@[expose] public section

set_option maxRecDepth 16384

noncomputable section
namespace Cert.Own

open Cert.KernelIdeal Cert.KernelIdeal.Gen
open Idealize.ShloMosaic

/-- One element of the second layer as the middle pass computes it: the weights against the scaled, shifted and
    rectified first layer. -/
def elemB (x0 : FVec Ideal S1x256x2048 .f32) (x1 : FVec Ideal S256x256 .f32) (x2 : FVec Ideal S2x256 .f32)
    (o : Fin 256) (j : Fin 2048) : EReal :=
  ∑ q : Fin 256, x1 (ix2 o q) * max (x0 (ix3 0 q j) * x2 (ix2 0 q) + x2 (ix2 1 q)) 0

theorem pay2_elem (x0 : FVec Ideal S1x256x2048 .f32) (x1 : FVec Ideal S256x256 .f32) (x2 : FVec Ideal S2x256 .f32)
    (o : Fin 256) (j : Fin 2048) :
    k1_pay2 (F := Ideal) (View.ld (Val := Elt Ideal) x2 row0) (View.ld (Val := Elt Ideal) x2 row1) x0 x1 (ix2 o j)
      = elemB x0 x1 x2 o j := by
  unfold elemB
  pointwise [k1_pay2, row0, row1]

/-- The middle pass's block, read at an element. -/
theorem outB_at (x0 : FVec Ideal S1x256x2048 .f32) (x1 : FVec Ideal S256x256 .f32) (x2 : FVec Ideal S2x256 .f32)
    (o : Fin 256) (j : Fin 2048) : outB (F := Ideal) x0 x1 x2 (ix3 0 o j) = elemB x0 x1 x2 o j := by
  unfold outB
  refine Eq.trans ?_ (pay2_elem x0 x1 x2 o j)
  pointwise [k1_pay3]

/-- The middle pass's running sums: the first row gains the block's sums. -/
theorem statB_at0 (x0 : FVec Ideal S1x256x2048 .f32) (x1 : FVec Ideal S256x256 .f32) (x2 : FVec Ideal S2x256 .f32)
    (s : FVec Ideal S2x256 .f32) (o : Fin 256) :
    statB (F := Ideal) x0 x1 x2 s (ix2 0 o) = s (ix2 0 o) + ∑ j : Fin 2048, elemB x0 x1 x2 o j := by
  have e : statB (F := Ideal) x0 x1 x2 s (ix2 0 o)
      = k1_pay5 (F := Ideal) (View.ld (Val := Elt Ideal) x2 row0) (View.ld (Val := Elt Ideal) x2 row1) x0 x1
          (View.ld (Val := Elt Ideal) s row0) (ix2 0 o) := rfl
  rw [e]
  simp only [← pay2_elem]
  pointwise [k1_pay5, row0]

/-- ... and the second row the sums of the squares. -/
theorem statB_at1 (x0 : FVec Ideal S1x256x2048 .f32) (x1 : FVec Ideal S256x256 .f32) (x2 : FVec Ideal S2x256 .f32)
    (s : FVec Ideal S2x256 .f32) (o : Fin 256) :
    statB (F := Ideal) x0 x1 x2 s (ix2 1 o)
      = s (ix2 1 o) + ∑ j : Fin 2048, elemB x0 x1 x2 o j * elemB x0 x1 x2 o j := by
  have e : statB (F := Ideal) x0 x1 x2 s (ix2 1 o)
      = k1_pay1 (F := Ideal) (k1_pay2 (F := Ideal) (View.ld (Val := Elt Ideal) x2 row0)
          (View.ld (Val := Elt Ideal) x2 row1) x0 x1) (View.ld (Val := Elt Ideal) s row1) (ix2 0 o) := rfl
  rw [e]
  simp only [← pay2_elem]
  pointwise [k1_pay1, row1]

theorem pay4_at (r : Fin 2) (o : Fin 256) : k1_pay4 (F := Ideal) (ix2 r o) = 0 := by
  pointwise [k1_pay4]

/-- The last pass's block, read at an element: the second layer scaled, shifted and rectified. -/
theorem outC_at (x0 : FVec Ideal S1x256x4096 .f32) (x1 : FVec Ideal S2x256 .f32) (o : Fin 256) (j : Fin 4096) :
    outC (F := Ideal) x0 x1 (ix3 0 o j) = max (x0 (ix3 0 o j) * x1 (ix2 0 o) + x1 (ix2 1 o)) 0 := by
  unfold outC
  pointwise [k2_pay1, row0, row1]
end Cert.Own
-- ==== Proof.ArrB.lean ====
module
public import proofs.«01_k».proof.Proof.PayBC
public import proofs.«01_k».proof.Proof.BodyB
public import proofs.«01_k».proof.Proof.Sums
public import Idealize.ShloMosaic.Lib.Pipeline.Value

@[expose] public section

set_option maxRecDepth 16384

noncomputable section
namespace Cert.Own

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Pass B's point for batch `b` and block `k` of the targets. -/
def ptB (b : Fin 8) (k : Fin 2) : Fin cfg1.N := ⟨2 * b.val + k.val, lt_of_lt_of_eq (by omega) N_1.symm⟩
/-- Target `j` of block `k`. -/
def colB (k : Fin 2) (j : Fin 2048) : Fin 4096 := ⟨2048 * k.val + j.val, by omega⟩

theorem index1_0 : ∀ t : Fin cfg1.N, win1_0.index t (0 : Fin 3) = t.val / 2 ∧ win1_0.index t (1 : Fin 3) = 0 ∧ win1_0.index t (2 : Fin 3) = t.val % 2 :=
  (by decide +kernel : ∀ t : Fin grid1.N, _)

theorem block1_0 (c : Dev nD) (b : Fin 8) (k : Fin 2) (q : Fin 256) (j : Fin 2048) :
    (iblk1 V c 0 (ptB b k) : FVec Ideal S1x256x2048 .f32) (ix3 0 q j) = (V c main_v1_0 : FVec Ideal S8x256x4096 .f32) (ix3 b q (colB k j)) := by
  have e := index1_0 (ptB b k)
  have hv : (ptB b k).val = 2 * b.val + k.val := rfl
  have hb := b.isLt
  have hk := k.isLt
  show (V c main_v1_0 : FVec Ideal S8x256x4096 .f32) (((cfg1.win 0).blk (ptB b k)).view.emb (ix3 0 q j : S1x256x2048.Idx)) = _
  refine congrArg _ (funext fun a' => Fin.ext ?_)
  match a' with
  | ⟨0, _⟩ => show win1_0.index (ptB b k) (0 : Fin 3) * 1 + 1 * 0 = b.val; rw [e.1, hv]; omega
  | ⟨1, _⟩ => show win1_0.index (ptB b k) (1 : Fin 3) * 256 + 1 * q.val = q.val; rw [e.2.1]; omega
  | ⟨2, _⟩ => show win1_0.index (ptB b k) (2 : Fin 3) * 2048 + 1 * j.val = (2048 * k.val + j.val); rw [e.2.2, hv]; omega

theorem index1_1 : ∀ t : Fin cfg1.N, win1_1.index t (0 : Fin 2) = 0 ∧ win1_1.index t (1 : Fin 2) = 0 :=
  (by decide +kernel : ∀ t : Fin grid1.N, _)

theorem block1_1 (c : Dev nD) (b : Fin 8) (k : Fin 2) (o q : Fin 256) :
    (iblk1 V c 1 (ptB b k) : FVec Ideal S256x256 .f32) (ix2 o q) = (V c main_arg8 : FVec Ideal S256x256 .f32) (ix2 o q) := by
  have e := index1_1 (ptB b k)
  have hv : (ptB b k).val = 2 * b.val + k.val := rfl
  have hb := b.isLt
  have hk := k.isLt
  show (V c main_arg8 : FVec Ideal S256x256 .f32) (((cfg1.win 1).blk (ptB b k)).view.emb (ix2 o q : S256x256.Idx)) = _
  refine congrArg _ (funext fun a' => Fin.ext ?_)
  match a' with
  | ⟨0, _⟩ => show win1_1.index (ptB b k) (0 : Fin 2) * 256 + 1 * o.val = o.val; rw [e.1]; omega
  | ⟨1, _⟩ => show win1_1.index (ptB b k) (1 : Fin 2) * 256 + 1 * q.val = q.val; rw [e.2]; omega

theorem index1_2 : ∀ t : Fin cfg1.N, win1_2.index t (0 : Fin 2) = 0 ∧ win1_2.index t (1 : Fin 2) = 0 :=
  (by decide +kernel : ∀ t : Fin grid1.N, _)

theorem block1_2 (c : Dev nD) (b : Fin 8) (k : Fin 2) (r : Fin 2) (q : Fin 256) :
    (iblk1 V c 2 (ptB b k) : FVec Ideal S2x256 .f32) (ix2 r q) = (V c main_v20 : FVec Ideal S2x256 .f32) (ix2 r q) := by
  have e := index1_2 (ptB b k)
  have hv : (ptB b k).val = 2 * b.val + k.val := rfl
  have hb := b.isLt
  have hk := k.isLt
  show (V c main_v20 : FVec Ideal S2x256 .f32) (((cfg1.win 2).blk (ptB b k)).view.emb (ix2 r q : S2x256.Idx)) = _
  refine congrArg _ (funext fun a' => Fin.ext ?_)
  match a' with
  | ⟨0, _⟩ => show win1_2.index (ptB b k) (0 : Fin 2) * 2 + 1 * r.val = r.val; rw [e.1]; omega
  | ⟨1, _⟩ => show win1_2.index (ptB b k) (1 : Fin 2) * 256 + 1 * q.val = q.val; rw [e.2]; omega

/-- The second layer before its normalisation, as pass B computes it from the arrays. -/
def layerB (Y : FVec Ideal S8x256x4096 .f32) (X8 : FVec Ideal S256x256 .f32) (Z : FVec Ideal S2x256 .f32)
    (b : Fin 8) (o : Fin 256) (n : Fin 4096) : EReal :=
  ∑ q : Fin 256, X8 (ix2 o q) * max (Y (ix3 b q n) * Z (ix2 0 q) + Z (ix2 1 q)) 0

/-- The second layer of the arrays the pass finds. -/
abbrev layerBt (c : Dev nD) (b : Fin 8) (o : Fin 256) (n : Fin 4096) : EReal :=
  layerB (V c main_v1_0) (V c main_arg8) (V c main_v20) b o n

/-- What the pass computes at one element of its block is the second layer there. -/
theorem elemB_block (c : Dev nD) (b : Fin 8) (k : Fin 2) (o : Fin 256) (j : Fin 2048) :
    elemB (iblk1 V c 0 (ptB b k)) (iblk1 V c 1 (ptB b k)) (iblk1 V c 2 (ptB b k)) o j
      = layerBt V c b o (colB k j) := by
  unfold layerBt elemB layerB
  refine Finset.sum_congr rfl fun q _ => ?_
  rw [block1_0, block1_1, block1_2, block1_2]

theorem index1_3 : ∀ t : Fin cfg1.N, win1_3.index t (0 : Fin 3) = t.val / 2 ∧ win1_3.index t (1 : Fin 3) = 0 ∧ win1_3.index t (2 : Fin 3) = t.val % 2 :=
  (by decide +kernel : ∀ t : Fin grid1.N, _)

/-- The first output's block at a point, read at an index. -/
theorem outB_block (c : Dev nD) (b : Fin 8) (k : Fin 2) (y : S1x256x2048.Idx) :
    outB (F := Ideal) (iblk1 V c 0 (ptB b k)) (iblk1 V c 1 (ptB b k)) (iblk1 V c 2 (ptB b k)) y
      = layerBt V c b (y 1) (colB k (y 2)) := by
  have hy : y = ix3 0 (y 1) (y 2) := by
    funext a
    match a with
    | ⟨0, _⟩ => exact Subsingleton.elim (α := Fin 1) _ _
    | ⟨1, _⟩ => rfl
    | ⟨2, _⟩ => rfl
  exact (congrArg _ hy).trans ((outB_at _ _ _ (y 1) (y 2)).trans (elemB_block V c b k (y 1) (y 2)))

theorem mem_blk1_3 (t : Fin cfg1.N) (i : S8x256x4096.Idx) :
    i ∈ ((cfg1.win 3).blk t).view.set ↔ ∀ a : Fin 3, win1_3.index t a * S1x256x2048.size a ≤ (i a).val
      ∧ (i a).val < win1_3.index t a * S1x256x2048.size a + S1x256x2048.size a := by
  show i ∈ ((View.whole main_v21_0).slice (win1_3.rect t)).set ↔ _
  rw [View.set_slice_whole, Rect.mem_set_unit]
  exact Iff.rfl

theorem cover1_3 (i : S8x256x4096.Idx) :
    ∃ t : Fin cfg1.N, (cfg1.win 3).flush t = true ∧ i ∈ ((cfg1.win 3).blk t).view.set := by
  have h0 : (i 0).val < 8 := (i 0).isLt
  have h1 : (i 1).val < 256 := (i 1).isLt
  have h2 : (i 2).val < 4096 := (i 2).isLt
  obtain ⟨b, hb⟩ : ∃ b : Fin 8, b.val = (i 0).val := ⟨⟨_, h0⟩, rfl⟩
  obtain ⟨k, hk⟩ : ∃ k : Fin 2, k.val = (i 2).val / 2048 := ⟨⟨(i 2).val / 2048, by omega⟩, rfl⟩
  refine ⟨ptB b k, flush1_3 _, ?_⟩
  have e := index1_3 (ptB b k)
  have hv : (ptB b k).val = 2 * b.val + k.val := rfl
  have hk2 := k.isLt
  rw [mem_blk1_3]
  intro a
  match a with
  | ⟨0, _⟩ =>
    show win1_3.index (ptB b k) (0 : Fin 3) * 1 ≤ (i 0).val ∧ (i 0).val < win1_3.index (ptB b k) (0 : Fin 3) * 1 + 1
    rw [e.1, hv]; omega
  | ⟨1, _⟩ =>
    show win1_3.index (ptB b k) (1 : Fin 3) * 256 ≤ (i 1).val ∧ (i 1).val < win1_3.index (ptB b k) (1 : Fin 3) * 256 + 256
    rw [e.2.1]; omega
  | ⟨2, _⟩ =>
    show win1_3.index (ptB b k) (2 : Fin 3) * 2048 ≤ (i 2).val ∧ (i 2).val < win1_3.index (ptB b k) (2 : Fin 3) * 2048 + 2048
    rw [e.2.2, hv]; omega

/-- The array of the second layer when the pass is over. -/
theorem arrB3 (c : Dev nD) :
    (dat1 V c).arrAt 3 cfg1.N = fun i : S8x256x4096.Idx => layerBt V c (i 0) (i 1) (i 2) := by
  refine (dat1 V c).arrAt_eq_of_cover 3 _ (fun t hf => ?_) cover1_3
  have ht : t.val < 16 := Nat.lt_of_lt_of_eq t.isLt N_1
  obtain ⟨b, k, rfl⟩ : ∃ b k, t = ptB b k :=
    ⟨⟨t.val / 2, by omega⟩, ⟨t.val % 2, by omega⟩, Fin.ext (by show t.val = 2 * (t.val / 2) + t.val % 2; omega)⟩
  have e := index1_3 (ptB b k)
  have hv : (ptB b k).val = 2 * b.val + k.val := rfl
  have hb := b.isLt
  have hk := k.isLt
  show (cfg1.win 3).cut (grid1.coords (ptB b k)) ((dat1 V c).after 3 (ptB b k)) = _
  rw [after1_3]
  funext y
  refine (outB_block V c b k (y : S1x256x2048.Idx)).trans ?_
  have e0 : ((cfg1.win 3).blk (ptB b k)).view.emb y (0 : Fin 3) = b := Fin.ext (by
    show win1_3.index (ptB b k) (0 : Fin 3) * 1 + 1 * (y 0).val = _
    have : (y 0).val < 1 := (y 0).isLt
    rw [e.1, hv]; omega)
  have e1 : ((cfg1.win 3).blk (ptB b k)).view.emb y (1 : Fin 3) = y 1 := Fin.ext (by
    show win1_3.index (ptB b k) (1 : Fin 3) * 256 + 1 * (y 1).val = _
    rw [e.2.1]; omega)
  have e2 : ((cfg1.win 3).blk (ptB b k)).view.emb y (2 : Fin 3) = colB k (y 2) := Fin.ext (by
    show win1_3.index (ptB b k) (2 : Fin 3) * 2048 + 1 * (y 2).val = 2048 * k.val + (y 2).val
    rw [e.2.2, hv]; omega)
  show _ = layerBt V c (((cfg1.win 3).blk (ptB b k)).view.emb y (0 : Fin 3)) (((cfg1.win 3).blk (ptB b k)).view.emb y (1 : Fin 3))
          (((cfg1.win 3).blk (ptB b k)).view.emb y (2 : Fin 3))
  rw [e0, e1, e2]

/-- The first row of the statistics after the last point: the sum of the second layer over batches and targets. -/
theorem sumsB0 (c : Dev nD) (o : Fin 256) (h : 15 < cfg1.N) :
    (statsB V c 15 h : FVec Ideal S2x256 .f32) (ix2 0 o) = ∑ b : Fin 8, ∑ n : Fin 4096, layerBt V c b o n := by
  have tot := running_total (N := cfg1.N) (fun n h => (statsB V c n h : FVec Ideal S2x256 .f32) (ix2 0 o))
    (fun t => ∑ j : Fin 2048, elemB (iblk1 V c 0 t) (iblk1 V c 1 t) (iblk1 V c 2 t) o j)
    (fun h => by
      refine (statB_at0 _ _ _ _ o).trans ?_
      rw [pay4_at, zero_add])
    (fun n h => statB_at0 _ _ _ _ o) 15 h
  refine tot.trans ?_
  refine (sum_blocks (a := 8) (b := 2) (n := 16) rfl _).trans ?_
  refine Finset.sum_congr rfl fun b _ => ?_
  refine Eq.trans ?_ (sum_blocks (a := 2) (b := 2048) (n := 4096) rfl (fun n => layerBt V c b o n)).symm
  refine Finset.sum_congr rfl fun k _ => Finset.sum_congr rfl fun j _ => ?_
  have e := elemB_block V c b k o j
  exact e

/-- The second row of the statistics after the last point: the sum of the squares of the second layer over batches and targets. -/
theorem sumsB1 (c : Dev nD) (o : Fin 256) (h : 15 < cfg1.N) :
    (statsB V c 15 h : FVec Ideal S2x256 .f32) (ix2 1 o) = ∑ b : Fin 8, ∑ n : Fin 4096, layerBt V c b o n * layerBt V c b o n := by
  have tot := running_total (N := cfg1.N) (fun n h => (statsB V c n h : FVec Ideal S2x256 .f32) (ix2 1 o))
    (fun t => ∑ j : Fin 2048, elemB (iblk1 V c 0 t) (iblk1 V c 1 t) (iblk1 V c 2 t) o j * elemB (iblk1 V c 0 t) (iblk1 V c 1 t) (iblk1 V c 2 t) o j)
    (fun h => by
      refine (statB_at1 _ _ _ _ o).trans ?_
      rw [pay4_at, zero_add])
    (fun n h => statB_at1 _ _ _ _ o) 15 h
  refine tot.trans ?_
  refine (sum_blocks (a := 8) (b := 2) (n := 16) rfl _).trans ?_
  refine Finset.sum_congr rfl fun b _ => ?_
  refine Eq.trans ?_ (sum_blocks (a := 2) (b := 2048) (n := 4096) rfl (fun n => layerBt V c b o n * layerBt V c b o n)).symm
  refine Finset.sum_congr rfl fun k _ => Finset.sum_congr rfl fun j _ => ?_
  have e := elemB_block V c b k o j
  exact congrArg₂ (· * ·) e e

theorem index1_4 : ∀ t : Fin cfg1.N, win1_4.index t (0 : Fin 2) = 0 ∧ win1_4.index t (1 : Fin 2) = 0 :=
  (by decide +kernel : ∀ t : Fin grid1.N, _)

theorem mem1_4 (h : 15 < cfg1.N) (i : S2x256.Idx) : i ∈ ((cfg1.win 4).blk ⟨15, h⟩).view.set := by
  have h0 : (i 0).val < 2 := (i 0).isLt
  have h1 : (i 1).val < 256 := (i 1).isLt
  have e := index1_4 ⟨15, h⟩
  show i ∈ ((View.whole main_v21_1).slice (win1_4.rect ⟨15, h⟩)).set
  rw [View.set_slice_whole, Rect.mem_set_unit]
  intro a
  match a with
  | ⟨0, _⟩ =>
    show win1_4.index ⟨15, h⟩ (0 : Fin 2) * 2 ≤ (i 0).val ∧ (i 0).val < win1_4.index ⟨15, h⟩ (0 : Fin 2) * 2 + 2
    rw [e.1]; omega
  | ⟨1, _⟩ =>
    show win1_4.index ⟨15, h⟩ (1 : Fin 2) * 256 ≤ (i 1).val ∧ (i 1).val < win1_4.index ⟨15, h⟩ (1 : Fin 2) * 256 + 256
    rw [e.2]; omega

/-- The array of the statistics when the pass is over. -/
theorem arrB4 (c : Dev nD) (h : 15 < cfg1.N) :
    (dat1 V c).arrAt 4 cfg1.N = (statsB V c 15 h : FVec Ideal S2x256 .f32) := by
  have last : ∀ t : Fin cfg1.N, (cfg1.win 4).flush t = true → t = ⟨15, h⟩ := fun t hf => Fin.ext (by
    have ht : t.val < 16 := Nat.lt_of_lt_of_eq t.isLt N_1
    have := (flush1_4 t).mp hf
    show t.val = 15
    omega)
  refine (dat1 V c).arrAt_eq_of_cover 4 _ (fun t hf => ?_) (fun i => ⟨⟨15, h⟩, (flush1_4 _).mpr (by show 15 % 16 = 15; rfl), mem1_4 h i⟩)
  obtain rfl := last t hf
  have e := index1_4 ⟨15, h⟩
  show (cfg1.win 4).cut (grid1.coords ⟨15, h⟩) ((dat1 V c).after 4 ⟨15, h⟩) = _
  rw [after1_4]
  funext y
  show (statsB V c 15 h : FVec Ideal S2x256 .f32) (y : S2x256.Idx)
    = (statsB V c 15 h : FVec Ideal S2x256 .f32) (((cfg1.win 4).blk ⟨15, h⟩).view.emb y)
  refine congrArg _ (funext fun a => Fin.ext ?_)
  match a with
  | ⟨0, _⟩ => show (y 0).val = win1_4.index ⟨15, h⟩ (0 : Fin 2) * 2 + 1 * (y 0).val; rw [e.1]; omega
  | ⟨1, _⟩ => show (y 1).val = win1_4.index ⟨15, h⟩ (1 : Fin 2) * 256 + 1 * (y 1).val; rw [e.2]; omega
end Cert.Own
-- ==== Proof.ArrC.lean ====
module
public import proofs.«01_k».proof.Proof.PayBC
public import proofs.«01_k».proof.Proof.BodyC
public import proofs.«01_k».proof.Proof.Sums
public import Idealize.ShloMosaic.Lib.Pipeline.Value

@[expose] public section

set_option maxRecDepth 16384

noncomputable section
namespace Cert.Own

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Pass C's point for batch `b`. -/
def ptC (b : Fin 8) : Fin cfg2.N := ⟨b.val, lt_of_lt_of_eq (by omega) N_2.symm⟩

theorem index2_0 : ∀ t : Fin cfg2.N, win2_0.index t (0 : Fin 3) = t.val ∧ win2_0.index t (1 : Fin 3) = 0 ∧ win2_0.index t (2 : Fin 3) = 0 :=
  (by decide +kernel : ∀ t : Fin grid2.N, _)

theorem block2_0 (c : Dev nD) (b : Fin 8) (o : Fin 256) (n : Fin 4096) :
    (iblk2 V c 0 (ptC b) : FVec Ideal S1x256x4096 .f32) (ix3 0 o n) = (V c main_v21_0 : FVec Ideal S8x256x4096 .f32) (ix3 b o n) := by
  have e := index2_0 (ptC b)
  have hv : (ptC b).val = b.val := rfl
  show (V c main_v21_0 : FVec Ideal S8x256x4096 .f32) (((cfg2.win 0).blk (ptC b)).view.emb (ix3 0 o n : S1x256x4096.Idx)) = _
  refine congrArg _ (funext fun a' => Fin.ext ?_)
  match a' with
  | ⟨0, _⟩ => show win2_0.index (ptC b) (0 : Fin 3) * 1 + 1 * 0 = b.val; rw [e.1, hv]; omega
  | ⟨1, _⟩ => show win2_0.index (ptC b) (1 : Fin 3) * 256 + 1 * o.val = o.val; rw [e.2.1]; omega
  | ⟨2, _⟩ => show win2_0.index (ptC b) (2 : Fin 3) * 4096 + 1 * n.val = n.val; rw [e.2.2]; omega

theorem index2_1 : ∀ t : Fin cfg2.N, win2_1.index t (0 : Fin 2) = 0 ∧ win2_1.index t (1 : Fin 2) = 0 :=
  (by decide +kernel : ∀ t : Fin grid2.N, _)

theorem block2_1 (c : Dev nD) (b : Fin 8) (r : Fin 2) (q : Fin 256) :
    (iblk2 V c 1 (ptC b) : FVec Ideal S2x256 .f32) (ix2 r q) = (V c main_v40 : FVec Ideal S2x256 .f32) (ix2 r q) := by
  have e := index2_1 (ptC b)
  have hv : (ptC b).val = b.val := rfl
  show (V c main_v40 : FVec Ideal S2x256 .f32) (((cfg2.win 1).blk (ptC b)).view.emb (ix2 r q : S2x256.Idx)) = _
  refine congrArg _ (funext fun a' => Fin.ext ?_)
  match a' with
  | ⟨0, _⟩ => show win2_1.index (ptC b) (0 : Fin 2) * 2 + 1 * r.val = r.val; rw [e.1]; omega
  | ⟨1, _⟩ => show win2_1.index (ptC b) (1 : Fin 2) * 256 + 1 * q.val = q.val; rw [e.2]; omega

/-- One element of the last pass's block: the second layer scaled, shifted and rectified. -/
def elemC (x0 : FVec Ideal S1x256x4096 .f32) (x1 : FVec Ideal S2x256 .f32) (o : Fin 256) (j : Fin 4096) : EReal :=
  max (x0 (ix3 0 o j) * x1 (ix2 0 o) + x1 (ix2 1 o)) 0

/-- The result as the last pass computes it from the arrays. -/
def layerC (Y : FVec Ideal S8x256x4096 .f32) (Z : FVec Ideal S2x256 .f32) (b : Fin 8) (o : Fin 256) (n : Fin 4096) : EReal :=
  max (Y (ix3 b o n) * Z (ix2 0 o) + Z (ix2 1 o)) 0

/-- The result of the arrays the pass finds. -/
abbrev layerCt (c : Dev nD) (b : Fin 8) (o : Fin 256) (n : Fin 4096) : EReal :=
  layerC (V c main_v21_0) (V c main_v40) b o n

theorem elemC_block (c : Dev nD) (b : Fin 8) (o : Fin 256) (j : Fin 4096) :
    elemC (iblk2 V c 0 (ptC b)) (iblk2 V c 1 (ptC b)) o j = layerCt V c b o j := by
  unfold layerCt elemC layerC
  rw [block2_0, block2_1, block2_1]

/-- The output's block at a point, read at an index. -/
theorem outC_block (c : Dev nD) (b : Fin 8) (y : S1x256x4096.Idx) :
    outC (F := Ideal) (iblk2 V c 0 (ptC b)) (iblk2 V c 1 (ptC b)) y = layerCt V c b (y 1) (y 2) := by
  have hy : y = ix3 0 (y 1) (y 2) := by
    funext a
    match a with
    | ⟨0, _⟩ => exact Subsingleton.elim (α := Fin 1) _ _
    | ⟨1, _⟩ => rfl
    | ⟨2, _⟩ => rfl
  exact (congrArg _ hy).trans ((outC_at _ _ (y 1) (y 2)).trans (elemC_block V c b (y 1) (y 2)))

theorem index2_2 : ∀ t : Fin cfg2.N, win2_2.index t (0 : Fin 3) = t.val ∧ win2_2.index t (1 : Fin 3) = 0 ∧ win2_2.index t (2 : Fin 3) = 0 :=
  (by decide +kernel : ∀ t : Fin grid2.N, _)

theorem mem_blk2_2 (t : Fin cfg2.N) (i : S8x256x4096.Idx) :
    i ∈ ((cfg2.win 2).blk t).view.set ↔ ∀ a : Fin 3, win2_2.index t a * S1x256x4096.size a ≤ (i a).val
      ∧ (i a).val < win2_2.index t a * S1x256x4096.size a + S1x256x4096.size a := by
  show i ∈ ((View.whole main_v41).slice (win2_2.rect t)).set ↔ _
  rw [View.set_slice_whole, Rect.mem_set_unit]
  exact Iff.rfl

theorem cover2_2 (i : S8x256x4096.Idx) :
    ∃ t : Fin cfg2.N, (cfg2.win 2).flush t = true ∧ i ∈ ((cfg2.win 2).blk t).view.set := by
  have h0 : (i 0).val < 8 := (i 0).isLt
  have h1 : (i 1).val < 256 := (i 1).isLt
  have h2 : (i 2).val < 4096 := (i 2).isLt
  obtain ⟨b, hb⟩ : ∃ b : Fin 8, b.val = (i 0).val := ⟨⟨_, h0⟩, rfl⟩
  refine ⟨ptC b, flush2_2 _, ?_⟩
  have e := index2_2 (ptC b)
  have hv : (ptC b).val = b.val := rfl
  rw [mem_blk2_2]
  intro a
  match a with
  | ⟨0, _⟩ =>
    show win2_2.index (ptC b) (0 : Fin 3) * 1 ≤ (i 0).val ∧ (i 0).val < win2_2.index (ptC b) (0 : Fin 3) * 1 + 1
    rw [e.1, hv]; omega
  | ⟨1, _⟩ =>
    show win2_2.index (ptC b) (1 : Fin 3) * 256 ≤ (i 1).val ∧ (i 1).val < win2_2.index (ptC b) (1 : Fin 3) * 256 + 256
    rw [e.2.1]; omega
  | ⟨2, _⟩ =>
    show win2_2.index (ptC b) (2 : Fin 3) * 4096 ≤ (i 2).val ∧ (i 2).val < win2_2.index (ptC b) (2 : Fin 3) * 4096 + 4096
    rw [e.2.2]; omega

/-- The result's array when the pass is over. -/
theorem arrC2 (c : Dev nD) :
    (dat2 V c).arrAt 2 cfg2.N = fun i : S8x256x4096.Idx => layerCt V c (i 0) (i 1) (i 2) := by
  refine (dat2 V c).arrAt_eq_of_cover 2 _ (fun t hf => ?_) cover2_2
  have ht : t.val < 8 := Nat.lt_of_lt_of_eq t.isLt N_2
  obtain ⟨b, rfl⟩ : ∃ b, t = ptC b := ⟨⟨t.val, ht⟩, rfl⟩
  have e := index2_2 (ptC b)
  have hv : (ptC b).val = b.val := rfl
  show (cfg2.win 2).cut (grid2.coords (ptC b)) ((dat2 V c).after 2 (ptC b)) = _
  rw [after2_2]
  funext y
  refine (outC_block V c b (y : S1x256x4096.Idx)).trans ?_
  have e0 : ((cfg2.win 2).blk (ptC b)).view.emb y (0 : Fin 3) = b := Fin.ext (by
    show win2_2.index (ptC b) (0 : Fin 3) * 1 + 1 * (y 0).val = _
    have : (y 0).val < 1 := (y 0).isLt
    rw [e.1, hv]; omega)
  have e1 : ((cfg2.win 2).blk (ptC b)).view.emb y (1 : Fin 3) = y 1 := Fin.ext (by
    show win2_2.index (ptC b) (1 : Fin 3) * 256 + 1 * (y 1).val = _
    rw [e.2.1]; omega)
  have e2 : ((cfg2.win 2).blk (ptC b)).view.emb y (2 : Fin 3) = y 2 := Fin.ext (by
    show win2_2.index (ptC b) (2 : Fin 3) * 4096 + 1 * (y 2).val = (y 2).val
    rw [e.2.2]; omega)
  show _ = layerCt V c (((cfg2.win 2).blk (ptC b)).view.emb y (0 : Fin 3)) (((cfg2.win 2).blk (ptC b)).view.emb y (1 : Fin 3))
          (((cfg2.win 2).blk (ptC b)).view.emb y (2 : Fin 3))
  rw [e0, e1, e2]
end Cert.Own
-- ==== Proof.HostK.lean ====
module
public import proofs.«01_k».proof.Proof.Gen.KernelIdeal.Launch
public import Idealize.ShloMosaic.Lib.Pointwise
public import Idealize.ShloMosaic.Lib.StableHlo.ReadAt

@[expose] public section

set_option maxRecDepth 16384

noncomputable section
namespace Cert.Own

open Cert.KernelIdeal Cert.KernelIdeal.Gen
open Idealize.ShloMosaic

/-- The mean that the statistics' first row gives. -/
def meanOf (st : FVec Ideal S2x256 .f32) (o : Fin 256) : EReal :=
  Ideal.div (st (ix2 0 o)) (Ideal.ofBits .f32 0x47000000#32)

/-- The scale that the statistics and the gains give. -/
def scaleOf (st : FVec Ideal S2x256 .f32) (g : FVec Ideal S256 .f32) (o : Fin 256) : EReal :=
  g (ix1 o) * Ideal.rsqrt (Ideal.div (st (ix2 1 o)) (Ideal.ofBits .f32 0x47000000#32) - meanOf st o * meanOf st o
    + Ideal.ofBits .f32 0x3727C5AC#32)

/-- The shift that the statistics, the gains and the offsets give. -/
def shiftOf (st : FVec Ideal S2x256 .f32) (g be : FVec Ideal S256 .f32) (o : Fin 256) : EReal :=
  be (ix1 o) - meanOf st o * scaleOf st g o

variable (W : Valuation τ sig (Elt Ideal))

/-- The first host stretch transposes the targets' coordinates. -/
theorem host0_at (b : Fin 8) (n : Fin 4096) (c : Fin 3) :
    (StableHlo.after hostOps0 W (Proc.devRef .tc main_v0) : FVec Ideal S8x4096x3 .f32) (ix3 b n c)
      = (W (Proc.devRef .tc main_arg0) : FVec Ideal S8x3x4096 .f32) (ix3 b c n) := by
  after_reads_at

theorem host1_at0 (o : Fin 256) :
    (StableHlo.after hostOps1 W (Proc.devRef .tc main_v20) : FVec Ideal S2x256 .f32) (ix2 0 o)
      = scaleOf (W (Proc.devRef .tc main_v1_1)) (W (Proc.devRef .tc main_arg6)) o := by
  unfold scaleOf meanOf
  after_reads_at

theorem host1_at1 (o : Fin 256) :
    (StableHlo.after hostOps1 W (Proc.devRef .tc main_v20) : FVec Ideal S2x256 .f32) (ix2 1 o)
      = shiftOf (W (Proc.devRef .tc main_v1_1)) (W (Proc.devRef .tc main_arg6)) (W (Proc.devRef .tc main_arg7)) o := by
  unfold shiftOf scaleOf meanOf
  after_reads_at

theorem host2_at0 (o : Fin 256) :
    (StableHlo.after hostOps2 W (Proc.devRef .tc main_v40) : FVec Ideal S2x256 .f32) (ix2 0 o)
      = scaleOf (W (Proc.devRef .tc main_v21_1)) (W (Proc.devRef .tc main_arg10)) o := by
  unfold scaleOf meanOf
  after_reads_at

theorem host2_at1 (o : Fin 256) :
    (StableHlo.after hostOps2 W (Proc.devRef .tc main_v40) : FVec Ideal S2x256 .f32) (ix2 1 o)
      = shiftOf (W (Proc.devRef .tc main_v21_1)) (W (Proc.devRef .tc main_arg10)) (W (Proc.devRef .tc main_arg11)) o := by
  unfold shiftOf scaleOf meanOf
  after_reads_at
end Cert.Own
-- ==== Proof.RefSort.lean ====
module
public import proofs.«01_k».proof.Proof.Gen.ReferenceIdeal.Read
public import Idealize.ShloMosaic.Lib.SortFacts
public import Idealize.ShloMosaic.Lib.Pointwise

@[expose] public section

noncomputable section
namespace Cert.Own
open Idealize.ShloMosaic Cert.ReferenceIdeal

/-- The order in which a stable sort by value takes finitely many extended reals: position `k` of the sorted list holds
    element `order D k`. -/
def order {n : Nat} (D : Fin n → EReal) (k : Fin n) : Fin n :=
  sortedFrom (fun i j => decide (D i < D j)) k

theorem order_injective {n : Nat} (D : Fin n → EReal) : Function.Injective (order D) := sortedFrom_injective _

theorem order_surjective {n : Nat} (D : Fin n → EReal) : Function.Surjective (order D) := sortedFrom_surjective _

/-- The sorted values ascend. -/
theorem order_le {n : Nat} (D : Fin n → EReal) (i j : Fin n) (h : i < j) : D (order D i) ≤ D (order D j) := by
  have := sortedFrom_noInversion (fun i j => decide (D i < D j)) (fun i j => decide (D i < D j))
    (fun a b => by simp only [decide_eq_true_eq, decide_eq_false_iff_not]; exact fun h => not_lt.2 h.le)
    (fun a b h => h)
    (fun a b c => by simp only [decide_eq_false_iff_not, not_lt]; exact fun h1 h2 => h2.trans h1) i j h
  simp only [decide_eq_false_iff_not, not_lt] at this
  exact this

/-- A two-operand sort along the last of three axes, whose comparison is the order of the keys, read at an index. -/
theorem sort2_at {A B C : Nat} {β : Type} (cmp : EReal × β → EReal × β → BitVec 1)
    (hcmp : ∀ a b i j, cmp (a, i) (b, j) = BitVec.ofBool (decide (a < b))) (x : (⟨3, ![A, B, C]⟩ : Shape).Idx → EReal)
    (y : (⟨3, ![A, B, C]⟩ : Shape).Idx → β) (b : Fin A) (n : Fin B) (j : Fin C) :
    (Host.sort2 ⟨3, ![A, B, C]⟩ 2 cmp x y).2 (ix3 b n j) = y (ix3 b n (order (fun s => x (ix3 b n s)) j)) := by
  have hd : 2 < (⟨3, ![A, B, C]⟩ : Shape).rank := Nat.lt_succ_self 2
  have al : ∀ k : Fin C, (ix3 b n j : (⟨3, ![A, B, C]⟩ : Shape).Idx).along ⟨2, hd⟩ k = ix3 b n k := fun k => by
    funext a
    match a with
    | ⟨0, _⟩ => rfl
    | ⟨1, _⟩ => rfl
    | ⟨2, _⟩ => rfl
  have e : ∀ a b : EReal, (BitVec.ofBool (decide (a < b)) == 1#1) = decide (a < b) := fun a b => by
    by_cases hab : a < b <;> simp [hab]
  have h : (Host.sort2 ⟨3, ![A, B, C]⟩ 2 cmp x y).2 = fun j => y (j.along ⟨2, hd⟩ (sortedFrom (fun k k' =>
      cmp (x (j.along ⟨2, hd⟩ k), y (j.along ⟨2, hd⟩ k)) (x (j.along ⟨2, hd⟩ k'), y (j.along ⟨2, hd⟩ k')) == 1#1)
      (j ⟨2, hd⟩))) := by
    unfold Host.sort2
    rw [dif_pos hd]
  rw [h]
  simp only [hcmp, e]
  show y (_ : (⟨3, ![A, B, C]⟩ : Shape).Idx) = _
  refine congrArg y ((al _).trans ?_)
  refine congrArg (ix3 b n) ?_
  unfold order
  refine congrFun (congrArg sortedFrom ?_) _
  funext k k'
  rw [al k, al k']

/-- The reference's comparison at the extended reals is the order of the keys. -/
theorem comparator_eq [Facts] (a b : EReal) (i j : BitVec 32) :
    comparator_f32_i32_d2 (F := Ideal) (a, i) (b, j) = BitVec.ofBool (decide (a < b)) := by
  have z : Ideal.ofBits .f32 0x00000000#32 = 0 := Ideal.ofBits_zero_f32
  have s : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := fun a => by
    rw [z]
    by_cases h : a = 0 <;> simp [Ideal.cmp, Scalar.select, h]
  show Ideal.cmp .olt _ _ = _
  erw [s a, s b]
  simp [Ideal.cmp]

/-- The reference's sorted positions, read at an index. -/
theorem argsort_at [Facts] (x : FVec Ideal S8x4096x1024 .f32) (b : Fin 8) (n : Fin 4096) (j : Fin 1024) :
    (Host.sort2 S8x4096x1024 2 (comparator_f32_i32_d2 (F := Ideal)) x (iotaInDim S8x4096x1024 32 2)).2 (ix3 b n j)
      = BitVec.ofNat 32 (order (fun s => x (ix3 b n s)) j).val := by
  refine (sort2_at _ (fun a b i j => comparator_eq a b i j) x _ b n j).trans ?_
  rfl
end Cert.Own
-- ==== Proof.RefGather.lean ====
module
public import Idealize.ShloMosaic.Lib.ValueIdx

@[expose] public section

namespace Cert.Own

open Idealize.ShloMosaic Idealize.ShloMosaic.ValueIdx

section Along
variable {α : Type}

/-- The dimension numbers of a gather along the last of three axes, the first two being batching axes. -/
abbrev alongDims (A B N K : Nat)
    (wf : GatherDims.WF ⟨3, ![A, B, N]⟩ ⟨4, ![A, B, K, 1]⟩ ⟨3, ![A, B, K]⟩ [] [2] [0, 1] [2] [0, 1] 3 ![1, 1, 1]) :
    GatherDims ⟨3, ![A, B, N]⟩ ⟨4, ![A, B, K, 1]⟩ ⟨3, ![A, B, K]⟩ where
  offsetDims := []
  collapsedSliceDims := [2]
  operandBatchingDims := [0, 1]
  startIndicesBatchingDims := [0, 1]
  startIndexMap := [2]
  indexVectorDim := 3
  sliceSizes := ![1, 1, 1]
  wf := wf

/-- That gather's element: the operand in the same row, at the index read signed and clamped. -/
theorem gather_along {A B N K w : Nat} (hN : 0 < N)
    (wf : GatherDims.WF ⟨3, ![A, B, N]⟩ ⟨4, ![A, B, K, 1]⟩ ⟨3, ![A, B, K]⟩ [] [2] [0, 1] [2] [0, 1] 3 ![1, 1, 1])
    (x : (⟨3, ![A, B, N]⟩ : Shape).Idx → α) (idx : IVec ⟨4, ![A, B, K, 1]⟩ w) (b : Fin A) (n : Fin B) (k : Fin K) :
    Host.gather (alongDims A B N K wf) x idx (ix3 b n k)
      = x (ix3 b n ⟨min (idx (ix4 b n k 0)).toInt.toNat (N - 1), by omega⟩) := by
  unfold Host.gather
  congr 1
  funext a
  refine Fin.ext ?_
  show (alongDims A B N K wf).start (ix3 b n k) idx a + (alongDims A B N K wf).batchCoord (ix3 b n k) a
      + (alongDims A B N K wf).offCoord (ix3 b n k) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by show (0 : Fin 3) ∈ ([0, 1] : List (Fin 3)); simp),
      GatherDims.offCoord_eq_zero _ _ _ (fun h => ((GatherDims.mem_sKept _ _).mp h).2 (by show (0 : Fin 3) ∈ ([0, 1] : List (Fin 3)); simp))]
    simp only [Nat.zero_add, Nat.add_zero]
    unfold GatherDims.batchCoord
    rw [dif_pos (by show (0 : Fin 3) ∈ ([0, 1] : List (Fin 3)); simp)]
    rfl
  · rw [GatherDims.start_batching _ _ _ _ (by show (1 : Fin 3) ∈ ([0, 1] : List (Fin 3)); simp),
      GatherDims.offCoord_eq_zero _ _ _ (fun h => ((GatherDims.mem_sKept _ _).mp h).2 (by show (1 : Fin 3) ∈ ([0, 1] : List (Fin 3)); simp))]
    simp only [Nat.zero_add, Nat.add_zero]
    unfold GatherDims.batchCoord
    rw [dif_pos (by show (1 : Fin 3) ∈ ([0, 1] : List (Fin 3)); simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (alongDims A B N K wf).startIndexMap from List.mem_singleton.mpr rfl)]
    have hsi : (alongDims A B N K wf).siIdx (ix3 b n k) ⟨List.idxOf (2 : Fin 3) (alongDims A B N K wf).startIndexMap,
        List.idxOf_lt_length_iff.2 (List.mem_singleton.mpr rfl)⟩ = ix4 b n k 0 := by
      funext c; refine Fin.ext ?_
      match c with
      | ⟨0, _⟩ => rfl
      | ⟨1, _⟩ => rfl
      | ⟨2, _⟩ => rfl
      | ⟨3, _⟩ => rfl
    rw [hsi]
    rfl
end Along

section Rows
variable {α : Type}

/-- The dimension numbers of a gather of whole rows, a batch and a row index for each. -/
abbrev pickDims (A N C B K : Nat)
    (wf : GatherDims.WF ⟨3, ![A, N, C]⟩ ⟨4, ![A, B, K, 2]⟩ ⟨4, ![A, B, K, C]⟩ [3] [0, 1] [] [0, 1] [] 3 ![1, 1, C]) :
    GatherDims ⟨3, ![A, N, C]⟩ ⟨4, ![A, B, K, 2]⟩ ⟨4, ![A, B, K, C]⟩ where
  offsetDims := [3]
  collapsedSliceDims := [0, 1]
  operandBatchingDims := []
  startIndicesBatchingDims := []
  startIndexMap := [0, 1]
  indexVectorDim := 3
  sliceSizes := ![1, 1, C]
  wf := wf

/-- That gather's element: the operand at the two indices, each read signed and clamped, in the same column. -/
theorem gather_pick {A N C B K w : Nat} (hA : 0 < A) (hN : 0 < N)
    (wf : GatherDims.WF ⟨3, ![A, N, C]⟩ ⟨4, ![A, B, K, 2]⟩ ⟨4, ![A, B, K, C]⟩ [3] [0, 1] [] [0, 1] [] 3 ![1, 1, C])
    (x : (⟨3, ![A, N, C]⟩ : Shape).Idx → α) (idx : IVec ⟨4, ![A, B, K, 2]⟩ w) (b : Fin A) (n : Fin B) (k : Fin K) (c : Fin C) :
    Host.gather (pickDims A N C B K wf) x idx (ix4 b n k c)
      = x (ix3 ⟨min (idx (ix4 b n k 0)).toInt.toNat (A - 1), by omega⟩ ⟨min (idx (ix4 b n k 1)).toInt.toNat (N - 1), by omega⟩ c) := by
  unfold Host.gather
  congr 1
  funext a
  refine Fin.ext ?_
  show (pickDims A N C B K wf).start (ix4 b n k c) idx a + (pickDims A N C B K wf).batchCoord (ix4 b n k c) a
      + (pickDims A N C B K wf).offCoord (ix4 b n k c) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · have hm : (0 : Fin 3) ∈ (pickDims A N C B K wf).startIndexMap := by show (0 : Fin 3) ∈ ([0, 1] : List (Fin 3)); simp
    rw [GatherDims.batchCoord_eq_zero _ _ _ List.not_mem_nil,
      GatherDims.offCoord_eq_zero _ _ _ (fun h => ((GatherDims.mem_sKept _ _).mp h).1 (by show (0 : Fin 3) ∈ ([0, 1] : List (Fin 3)); simp))]
    simp only [Nat.add_zero]
    unfold GatherDims.start
    rw [dif_pos hm]
    have hsi : (pickDims A N C B K wf).siIdx (ix4 b n k c) ⟨List.idxOf (0 : Fin 3) (pickDims A N C B K wf).startIndexMap,
        List.idxOf_lt_length_iff.2 hm⟩ = ix4 b n k 0 := by
      funext c; refine Fin.ext ?_
      match c with
      | ⟨0, _⟩ => rfl
      | ⟨1, _⟩ => rfl
      | ⟨2, _⟩ => rfl
      | ⟨3, _⟩ => rfl
    rw [hsi]
    rfl
  · have hm : (1 : Fin 3) ∈ (pickDims A N C B K wf).startIndexMap := by show (1 : Fin 3) ∈ ([0, 1] : List (Fin 3)); simp
    rw [GatherDims.batchCoord_eq_zero _ _ _ List.not_mem_nil,
      GatherDims.offCoord_eq_zero _ _ _ (fun h => ((GatherDims.mem_sKept _ _).mp h).1 (by show (1 : Fin 3) ∈ ([0, 1] : List (Fin 3)); simp))]
    simp only [Nat.add_zero]
    unfold GatherDims.start
    rw [dif_pos hm]
    have hsi : (pickDims A N C B K wf).siIdx (ix4 b n k c) ⟨List.idxOf (1 : Fin 3) (pickDims A N C B K wf).startIndexMap,
        List.idxOf_lt_length_iff.2 hm⟩ = ix4 b n k 1 := by
      funext c; refine Fin.ext ?_
      match c with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    have hs : (pickDims A N C B K wf).start (ix4 b n k c) idx (2 : Fin 3) = 0 := by
      unfold GatherDims.start
      exact dif_neg (by show ¬ (2 : Fin 3) ∈ ([0, 1] : List (Fin 3)); decide)
    rw [hs]
    simp only [Nat.zero_add, Nat.add_zero]
    unfold GatherDims.offCoord
    rw [dif_pos ((GatherDims.mem_sKept _ _).mpr ⟨by show ¬ (2 : Fin 3) ∈ ([0, 1] : List (Fin 3)); decide, List.not_mem_nil⟩)]
    rfl
end Rows
end Cert.Own
-- ==== Proof.RefA.lean ====
module
public import proofs.«01_k».proof.Proof.RefSort
public import proofs.«01_k».proof.Proof.RefGather

@[expose] public section

set_option maxRecDepth 16384

noncomputable section
namespace Cert.Own
open Idealize.ShloMosaic Cert.ReferenceIdeal Cert.ReferenceIdeal.Gen Cert.ReferenceIdeal.Read

/-- The squared distance of target `n` from source `s` of batch `b`, as the reference computes it. -/
def distR (x0 : FVec Ideal S8x3x4096 .f32) (x1 : FVec Ideal S8x3x1024 .f32) (b : Fin 8) (n : Fin 4096) (s : Fin 1024) : EReal :=
  Ideal.ofBits .f32 0xC0000000#32 * (∑ c : Fin 3, x0 (ix3 b c n) * x1 (ix3 b c s))
    + (∑ c : Fin 3, x0 (ix3 b c n) * x0 (ix3 b c n)) + (∑ c : Fin 3, x1 (ix3 b c s) * x1 (ix3 b c s))

theorem dist_at (x0 : FVec Ideal S8x3x4096 .f32) (x1 : FVec Ideal S8x3x1024 .f32) (b : Fin 8) (n : Fin 4096) (s : Fin 1024) :
    val_main_v15 (F := Ideal) x0 x1 (ix3 b n s) = distR x0 x1 b n s := by
  unfold distR
  pointwise [val_main_v15, val_main_v14, val_main_v13, val_main_v12, val_main_cst_1, val_main_v11, val_main_v10, val_main_v9,
    val_main_v8, val_main_v7, val_main_cst_0, val_main_v6, val_main_v5, val_main_v4, val_main_cst, val_main_v3, val_main_v1, val_main_v0]

/-- The position of the `k`-th nearest source, as the reference orders them. -/
def near (x0 : FVec Ideal S8x3x4096 .f32) (x1 : FVec Ideal S8x3x1024 .f32) (b : Fin 8) (n : Fin 4096) (k : Fin 3) : Fin 1024 :=
  order (distR x0 x1 b n) ⟨k.val, by omega⟩

theorem pos_at (x0 : FVec Ideal S8x3x4096 .f32) (x1 : FVec Ideal S8x3x1024 .f32) (b : Fin 8) (n : Fin 4096) (k : Fin 3) :
    val_main_v17 (F := Ideal) x0 x1 (ix3 b n k) = BitVec.ofNat 32 (near x0 x1 b n k).val := by
  refine Eq.trans (b := val_main_v16 (F := Ideal) x0 x1 (ix3 b n ⟨k.val, by omega⟩)) (by pointwise [val_main_v17]) ?_
  unfold val_main_v16 val_main_call0_v0
  rw [argsort_at]
  unfold near
  simp only [dist_at]

theorem word_int {x : ℕ} (h : x < 1024) : (BitVec.ofNat 32 x).toInt = x := by
  have e : (BitVec.ofNat 32 x).toNat = x := by rw [BitVec.toNat_ofNat]; exact Nat.mod_eq_of_lt (by omega)
  rw [BitVec.toInt_eq_toNat_of_lt (by rw [e]; omega), e]

/-- A small index is no negative word, so it is not wrapped. -/
theorem not_wrapped {x : ℕ} (h : x < 1024) (a : BitVec 32) :
    Scalar.select (IntOp.cmpi .slt (BitVec.ofNat 32 x) 0#32) a (BitVec.ofNat 32 x) = BitVec.ofNat 32 x := by
  have e : IntOp.cmpi .slt (BitVec.ofNat 32 x) 0#32 = 0#1 := by
    have := word_int h
    have n : ¬ ((x : ℤ) < 0) := by omega
    simp only [IntOp.cmpi, BitVec.slt, this, BitVec.toInt_zero, n, decide_false]
    rfl
  rw [e]
  rfl

theorem wrapped_at (x0 : FVec Ideal S8x3x4096 .f32) (x1 : FVec Ideal S8x3x1024 .f32) (b : Fin 8) (n : Fin 4096) (k : Fin 3) :
    val_main_v38 (F := Ideal) x0 x1 (ix3 b n k) = BitVec.ofNat 32 (near x0 x1 b n k).val := by
  pointwise [val_main_v38, val_main_v35, val_main_v34, val_main_v37, val_main_v36, val_main_c_6, val_main_c_7]
  rw [pos_at]
  exact not_wrapped (near x0 x1 b n k).isLt _

theorem idx_at (x0 : FVec Ideal S8x3x4096 .f32) (x1 : FVec Ideal S8x3x1024 .f32) (b : Fin 8) (n : Fin 4096) (k : Fin 3) :
    val_main_call1_v5 (F := Ideal) x0 x1 (ix4 b n k 0) = BitVec.ofNat 32 (near x0 x1 b n k).val := by
  pointwise [val_main_call1_v5, val_main_call1_v4, val_main_call1_v3, val_main_call1_v2, val_main_call1_v1, val_main_call1_v0, val_main_call1_c, val_main_call1_c_0]
  rw [pos_at]
  exact not_wrapped (near x0 x1 b n k).isLt _

/-- The gather's index is in range. -/
theorem inrange {x : ℕ} (h : x < 1024) : IntOp.andi (IntOp.andi (IntOp.cmpi .sge (BitVec.ofNat 32 x) 0#32)
    (IntOp.cmpi .sle (BitVec.ofNat 32 x) 1023#32)) 1#1 = 1#1 := by
  have e := word_int h
  have h' : (x : ℤ) ≤ 1023 := by omega
  have e1 : IntOp.cmpi .sge (BitVec.ofNat 32 x) 0#32 = 1#1 := by
    simp [IntOp.cmpi, BitVec.sle, e]
  have e2 : IntOp.cmpi .sle (BitVec.ofNat 32 x) 1023#32 = 1#1 := by
    simp [IntOp.cmpi, BitVec.sle, e, h']
  rw [e1, e2]
  rfl

theorem inrange_at (x0 : FVec Ideal S8x3x4096 .f32) (x1 : FVec Ideal S8x3x1024 .f32) (b : Fin 8) (n : Fin 4096) (k : Fin 3) :
    val_main_call1_v12 (F := Ideal) x0 x1 (ix3 b n k) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  have e : (default : Fin 1) = 0 := rfl
  rw [e, idx_at]
  exact inrange (near x0 x1 b n k).isLt

theorem batch_at (b : Fin 8) (n : Fin 4096) (k : Fin 3) :
    val_main_v40 (F := Ideal) (ix4 b n k 0) = BitVec.ofNat 32 b.val := by
  pointwise [val_main_v40, val_main_v39, val_main_v33, val_main_v32, val_main_v31, val_main_v30, val_main_v29, val_main_v28, val_main_v27, val_main_c, val_main_c_5]
  exact not_wrapped (by omega) _

theorem clamp {x N : ℕ} (h : x < N) (hN : N ≤ 1024) : min (BitVec.ofNat 32 x).toInt.toNat (N - 1) = x := by
  rw [word_int (by omega)]
  simp only [Int.toNat_natCast]
  omega

/-- The distance of the `k`-th nearest source. -/
theorem nearest_at (x0 : FVec Ideal S8x3x4096 .f32) (x1 : FVec Ideal S8x3x1024 .f32) (b : Fin 8) (n : Fin 4096) (k : Fin 3) :
    val_main_v18 (F := Ideal) x0 x1 (ix3 b n k) = distR x0 x1 b n (near x0 x1 b n k) := by
  rw [val_main_v18_apply, inrange_at]
  refine Eq.trans (b := val_main_call1_v13 (F := Ideal) x0 x1 (ix3 b n k)) rfl ?_
  unfold val_main_call1_v13
  refine (gather_along (A := 8) (B := 4096) (N := 1024) (K := 3) (by norm_num) _ _ _ b n k).trans ?_
  refine (dist_at x0 x1 b n _).trans (congrArg (distR x0 x1 b n) (Fin.ext ?_))
  show min (val_main_call1_v5 (F := Ideal) x0 x1 (ix4 b n k 0)).toInt.toNat (1024 - 1) = _
  rw [idx_at]
  exact clamp (near x0 x1 b n k).isLt le_rfl

/-- The reciprocal of the `k`-th smallest distance, kept from zero. -/
def recip (x0 : FVec Ideal S8x3x4096 .f32) (x1 : FVec Ideal S8x3x1024 .f32) (b : Fin 8) (n : Fin 4096) (k : Fin 3) : EReal :=
  Ideal.div (Ideal.ofBits .f32 0x3F800000#32) (distR x0 x1 b n (near x0 x1 b n k) + Ideal.ofBits .f32 0x322BCC77#32)

theorem recip_at (x0 : FVec Ideal S8x3x4096 .f32) (x1 : FVec Ideal S8x3x1024 .f32) (b : Fin 8) (n : Fin 4096) (k : Fin 3) :
    val_main_v22 (F := Ideal) x0 x1 (ix3 b n k) = recip x0 x1 b n k := by
  unfold recip
  rw [← nearest_at]
  pointwise [val_main_v22, val_main_v21, val_main_v20, val_main_v19, val_main_cst_2, val_main_cst_3]

/-- The weight of the `k`-th nearest source. -/
def share (x0 : FVec Ideal S8x3x4096 .f32) (x1 : FVec Ideal S8x3x1024 .f32) (b : Fin 8) (n : Fin 4096) (k : Fin 3) : EReal :=
  Ideal.div (recip x0 x1 b n k) (∑ k' : Fin 3, recip x0 x1 b n k')

theorem share_at (x0 : FVec Ideal S8x3x4096 .f32) (x1 : FVec Ideal S8x3x1024 .f32) (b : Fin 8) (n : Fin 4096) (k : Fin 3) :
    val_main_v26 (F := Ideal) x0 x1 (ix3 b n k) = share x0 x1 b n k := by
  unfold share
  simp only [← recip_at]
  pointwise [val_main_v26, val_main_v25, val_main_v24, val_main_v23, val_main_cst_4]

/-- The gathered source points. -/
theorem picked_at (x0 : FVec Ideal S8x3x4096 .f32) (x1 : FVec Ideal S8x3x1024 .f32) (x3 : FVec Ideal S8x512x1024 .f32)
    (b : Fin 8) (n : Fin 4096) (k : Fin 3) (c : Fin 512) :
    val_main_v43 (F := Ideal) x0 x1 x3 (ix4 b n k c) = x3 (ix3 b c (near x0 x1 b n k)) := by
  unfold val_main_v43
  refine (gather_pick (A := 8) (N := 1024) (C := 512) (B := 4096) (K := 3) (by norm_num) (by norm_num) _ _ _ b n k c).trans ?_
  have e0 : val_main_v42 (F := Ideal) x0 x1 (ix4 b n k 0) = BitVec.ofNat 32 b.val := by
    rw [← batch_at b n k]
    pointwise [val_main_v42]
  have e1 : val_main_v42 (F := Ideal) x0 x1 (ix4 b n k 1) = BitVec.ofNat 32 (near x0 x1 b n k).val := by
    rw [← wrapped_at]
    pointwise [val_main_v42, val_main_v41]
  refine Eq.trans (b := val_main_v2 (F := Ideal) x3 (ix3 b (near x0 x1 b n k) c)) ?_ (by pointwise [val_main_v2])
  refine congrArg (val_main_v2 (F := Ideal) x3) (congrArg₂ (fun p q => ix3 p q c) (Fin.ext ?_) (Fin.ext ?_))
  · show min (val_main_v42 (F := Ideal) x0 x1 (ix4 b n k 0)).toInt.toNat (8 - 1) = _
    rw [e0]
    exact clamp b.isLt (by norm_num)
  · show min (val_main_v42 (F := Ideal) x0 x1 (ix4 b n k 1)).toInt.toNat (1024 - 1) = _
    rw [e1]
    exact clamp (near x0 x1 b n k).isLt le_rfl

/-- The interpolated points: the three nearest sources' points, weighted. -/
def interp (x0 : FVec Ideal S8x3x4096 .f32) (x1 : FVec Ideal S8x3x1024 .f32) (x3 : FVec Ideal S8x512x1024 .f32)
    (b : Fin 8) (n : Fin 4096) (c : Fin 512) : EReal :=
  ∑ k : Fin 3, x3 (ix3 b c (near x0 x1 b n k)) * share x0 x1 b n k

theorem interp_at (x0 : FVec Ideal S8x3x4096 .f32) (x1 : FVec Ideal S8x3x1024 .f32) (x3 : FVec Ideal S8x512x1024 .f32)
    (b : Fin 8) (n : Fin 4096) (c : Fin 512) :
    val_main_v47 (F := Ideal) x0 x1 x3 (ix3 b n c) = interp x0 x1 x3 b n c := by
  unfold interp
  simp only [← picked_at, ← share_at]
  pointwise [val_main_v47, val_main_v46, val_main_v45, val_main_v44, val_main_cst_8]

/-- The first layer before its bias, as the reference computes it. -/
def layerR (x0 : FVec Ideal S8x3x4096 .f32) (x1 : FVec Ideal S8x3x1024 .f32) (x2 : FVec Ideal S8x256x4096 .f32)
    (x3 : FVec Ideal S8x512x1024 .f32) (x4 : FVec Ideal S256x768 .f32) (b : Fin 8) (o : Fin 256) (n : Fin 4096) : EReal :=
  ∑ q : Fin 768, (if h : q.val < 256 then x2 (ix3 b ⟨q.val, h⟩ n) else interp x0 x1 x3 b n ⟨q.val - 256, by omega⟩) * x4 (ix2 o q)

theorem layer_at (x0 : FVec Ideal S8x3x4096 .f32) (x1 : FVec Ideal S8x3x1024 .f32) (x2 : FVec Ideal S8x256x4096 .f32)
    (x3 : FVec Ideal S8x512x1024 .f32) (x4 : FVec Ideal S256x768 .f32) (b : Fin 8) (o : Fin 256) (n : Fin 4096) :
    val_main_v52 (F := Ideal) x0 x1 x2 x3 x4 (ix3 b o n) = layerR x0 x1 x2 x3 x4 b o n := by
  unfold layerR
  simp only [← interp_at]
  pointwise [val_main_v52, val_main_v51, val_main_v50, val_main_v49, val_main_v48]
end Cert.Own
-- ==== Proof.Consts.lean ====
module
public import Idealize.ShloMosaic.Lib.IdealHost
public import Idealize.ShloMosaic.Lib.Pointwise

@[expose] public section

noncomputable section
namespace Cert.Own
open Idealize.ShloMosaic

/-- The small number the reciprocals are kept from zero by, as a real. -/
def eps8 : ℝ := 11258999 * (2 : ℝ) ^ (-50 : ℤ)

/-- The small number the variances are kept from zero by, as a real. -/
def eps5 : ℝ := 10995116 * (2 : ℝ) ^ (-40 : ℤ)

theorem eps8_pos : 0 < eps8 := by unfold eps8; positivity

theorem eps5_pos : 0 < eps5 := by unfold eps5; positivity

theorem word_eps8 : Ideal.ofBits .f32 0x322BCC77#32 = ((eps8 : ℝ) : EReal) := by
  simp [Ideal.ofBits, Ideal.ieee, eps8, -EReal.coe_mul]

theorem word_eps5 : Ideal.ofBits .f32 0x3727C5AC#32 = ((eps5 : ℝ) : EReal) := by
  simp [Ideal.ofBits, Ideal.ieee, eps5, -EReal.coe_mul]

theorem word_count : Ideal.ofBits .f32 0x47000000#32 = ((32768 : ℝ) : EReal) := by
  simp [Ideal.ofBits, Ideal.ieee, -EReal.coe_mul]; norm_num

theorem word_minus_two : Ideal.ofBits .f32 0xC0000000#32 = ((-2 : ℝ) : EReal) := by
  simp [Ideal.ofBits, Ideal.ieee, -EReal.coe_mul, -EReal.coe_neg]; norm_num

theorem word_one : Ideal.ofBits .f32 0x3F800000#32 = ((1 : ℝ) : EReal) := by
  rw [Ideal.ofBits_one_f32]; norm_cast

end Cert.Own
-- ==== Proof.RefB.lean ====
module
public import proofs.«01_k».proof.Proof.RefA
public import proofs.«01_k».proof.Proof.Consts
public import Idealize.ShloMosaic.Lib.IdealHost

@[expose] public section

set_option maxRecDepth 16384

noncomputable section
namespace Cert.Own
open Idealize.ShloMosaic Cert.ReferenceIdeal Cert.ReferenceIdeal.Gen Cert.ReferenceIdeal.Read

/-- A host sum over the first and the last of three axes is the double sum. -/
theorem sum_outer {A B C : ℕ} (h : (⟨3, ![A, B, C]⟩ : Shape).ReducesTo [0, 2] ⟨1, ![B]⟩) {u : Shape} (hu : 0 < u.numel)
    (x : FVec Ideal ⟨3, ![A, B, C]⟩ .f32) (init : FVec Ideal u .f32) (hz : init (Shape.Idx.first hu) = (0 : EReal)) (o : Fin B) :
    Host.reduceAdd x init h hu (ix1 o) = ∑ a : Fin A, ∑ c : Fin C, (x (ix3 a o c) : EReal) := by
  rw [ValueIdx.hostReduceAdd_apply, hz]
  unfold Ideal.hostReduceAdd
  rw [zero_add]
  rw [Finset.sum_filter_eq_sum_of_fiber (fun i => h.drop i = ix1 o)
    (fun p : Fin A × Fin C => (ix3 p.1 o p.2 : (⟨3, ![A, B, C]⟩ : Shape).Idx)) (fun p q e => Prod.ext (congrFun e 0) (congrFun e 2))
    (fun i => ?_) x, Fintype.sum_prod_type]
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- The mean of a layer over batch and targets. -/
def meanR (y : Fin 8 → Fin 256 → Fin 4096 → EReal) (o : Fin 256) : EReal :=
  Ideal.div (∑ b : Fin 8, ∑ n : Fin 4096, y b o n) (Ideal.ofBits .f32 0x47000000#32)

/-- The variance of a layer over batch and targets. -/
def varR (y : Fin 8 → Fin 256 → Fin 4096 → EReal) (o : Fin 256) : EReal :=
  Ideal.div (∑ b : Fin 8, ∑ n : Fin 4096, (y b o n - meanR y o) * (y b o n - meanR y o)) (Ideal.ofBits .f32 0x47000000#32)

/-- The normalised, scaled, shifted and rectified layer. -/
def normR (y : Fin 8 → Fin 256 → Fin 4096 → EReal) (g be : FVec Ideal S256 .f32) (b : Fin 8) (o : Fin 256) (n : Fin 4096) : EReal :=
  max (Ideal.div (g (ix1 o) * (y b o n - meanR y o)) (Ideal.sqrt (varR y o + Ideal.ofBits .f32 0x3727C5AC#32)) + be (ix1 o)) 0

/-- The divisor of the variance: the count less zero. -/
theorem count_eq : (Ideal.ofBits .f32 0x47000000#32 - FloatOps.sitofp (F := Ideal) .f32 0#32 : EReal) = Ideal.ofBits .f32 0x47000000#32 := by
  have e : (FloatOps.sitofp (F := Ideal) .f32 0#32 : EReal) = 0 := by
    show (((0#32 : BitVec 32).toInt : ℝ) : EReal) = 0
    simp
  rw [e, sub_zero]

theorem count_pos : (0 : EReal) < Ideal.ofBits .f32 0x47000000#32 := by
  rw [word_count]
  exact_mod_cast (by norm_num : (0 : ℝ) < 32768)

/-! ## The first normalisation -/

theorem sumA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_v56 (F := Ideal) x0 x1 x2 x3 x4 x5 (ix1 o) = ∑ b : Fin 8, ∑ n : Fin 4096, val_main_v55 (F := Ideal) x0 x1 x2 x3 x4 x5 (ix3 b o n) :=
  sum_outer _ _ _ _ (by show Ideal.ofBits .f32 0x00000000#32 = 0; exact Ideal.ofBits_zero_f32) o

theorem sumA_at' (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_call2_v0 (F := Ideal) x0 x1 x2 x3 x4 x5 (ix1 o) = ∑ b : Fin 8, ∑ n : Fin 4096, val_main_v55 (F := Ideal) x0 x1 x2 x3 x4 x5 (ix3 b o n) :=
  sum_outer _ _ _ _ (by show Ideal.ofBits .f32 0x00000000#32 = 0; exact Ideal.ofBits_zero_f32) o

theorem meanA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_v59 (F := Ideal) x0 x1 x2 x3 x4 x5 (ix3 0 o 0) = meanR (fun b o n => val_main_v55 (F := Ideal) x0 x1 x2 x3 x4 x5 (ix3 b o n)) o := by
  unfold meanR
  rw [← sumA_at]
  pointwise [val_main_v59, val_main_v58, val_main_cst_10, val_main_v57]

theorem meanA_at' (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_call2_v3 (F := Ideal) x0 x1 x2 x3 x4 x5 (ix3 0 o 0) = meanR (fun b o n => val_main_v55 (F := Ideal) x0 x1 x2 x3 x4 x5 (ix3 b o n)) o := by
  unfold meanR
  rw [← sumA_at']
  pointwise [val_main_call2_v3, val_main_call2_v2, val_main_call2_cst_0, val_main_call2_v1]

theorem devA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (b : Fin 8) (o : Fin 256) (n : Fin 4096) : val_main_call2_v6 (F := Ideal) x0 x1 x2 x3 x4 x5 (ix3 b o n)
    = (val_main_v55 (F := Ideal) x0 x1 x2 x3 x4 x5 (ix3 b o n) - meanR (fun b o n => val_main_v55 (F := Ideal) x0 x1 x2 x3 x4 x5 (ix3 b o n)) o)
      * (val_main_v55 (F := Ideal) x0 x1 x2 x3 x4 x5 (ix3 b o n) - meanR (fun b o n => val_main_v55 (F := Ideal) x0 x1 x2 x3 x4 x5 (ix3 b o n)) o) := by
  rw [← meanA_at']
  pointwise [val_main_call2_v6, val_main_call2_v5, val_main_call2_v4]

theorem sqA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_call2_v9 (F := Ideal) x0 x1 x2 x3 x4 x5 (ix1 o) = ∑ b : Fin 8, ∑ n : Fin 4096,
    (val_main_v55 (F := Ideal) x0 x1 x2 x3 x4 x5 (ix3 b o n) - meanR (fun b o n => val_main_v55 (F := Ideal) x0 x1 x2 x3 x4 x5 (ix3 b o n)) o)
      * (val_main_v55 (F := Ideal) x0 x1 x2 x3 x4 x5 (ix3 b o n) - meanR (fun b o n => val_main_v55 (F := Ideal) x0 x1 x2 x3 x4 x5 (ix3 b o n)) o) :=
  (sum_outer _ _ _ _ (by show Ideal.ofBits .f32 0x00000000#32 = 0; exact Ideal.ofBits_zero_f32) o).trans
    (Finset.sum_congr rfl fun b _ => Finset.sum_congr rfl fun n _ => devA_at x0 x1 x2 x3 x4 x5 b o n)

theorem varA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (o : Fin 256) : val_main_v60 (F := Ideal) x0 x1 x2 x3 x4 x5 (ix3 0 o 0) = varR (fun b o n => val_main_v55 (F := Ideal) x0 x1 x2 x3 x4 x5 (ix3 b o n)) o := by
  refine Eq.trans ?_ (congrArg (fun t => Ideal.div t (Ideal.ofBits .f32 0x47000000#32)) (sqA_at x0 x1 x2 x3 x4 x5 o))
  pointwise [val_main_v60, val_main_call2_call0_v1, val_main_call2_call0_v0, val_main_call2_cst_4, val_main_call2_v13, val_main_call2_cst_3, val_main_call2_v12, val_main_call2_v11, val_main_call2_v10, val_main_call2_v8, val_main_call2_cst_1, val_main_call2_v7, val_main_c_11]
  rw [count_eq, if_pos count_pos]

theorem normA_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (b : Fin 8) (o : Fin 256) (n : Fin 4096) :
    val_main_v74 (F := Ideal) x0 x1 x2 x3 x4 x5 x6 x7 (ix3 b o n) = normR (fun b o n => val_main_v55 (F := Ideal) x0 x1 x2 x3 x4 x5 (ix3 b o n)) x6 x7 b o n := by
  unfold normR
  rw [← meanA_at, ← varA_at]
  pointwise [val_main_v74, val_main_call3_v0, val_main_call3_cst, val_main_v73, val_main_v72, val_main_v71, val_main_v70, val_main_v69, val_main_v68, val_main_v67, val_main_v66, val_main_cst_12, val_main_v65, val_main_v64, val_main_v63, val_main_v62, val_main_v61]

/-- The first layer with its bias. -/
theorem biased_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (b : Fin 8) (o : Fin 256) (n : Fin 4096) :
    val_main_v55 (F := Ideal) x0 x1 x2 x3 x4 x5 (ix3 b o n) = layerR x0 x1 x2 x3 x4 b o n + x5 (ix1 o) := by
  rw [← layer_at]
  pointwise [val_main_v55, val_main_v54, val_main_v53]

/-- The second layer with its bias. -/
theorem biased_at' (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (b : Fin 8) (o : Fin 256) (n : Fin 4096) :
    val_main_v79 (F := Ideal) x0 x1 x2 x3 x4 x5 x6 x7 x8 x9 (ix3 b o n)
      = (∑ q : Fin 256, val_main_v74 (F := Ideal) x0 x1 x2 x3 x4 x5 x6 x7 (ix3 b q n) * x8 (ix2 o q)) + x9 (ix1 o) := by
  pointwise [val_main_v79, val_main_v78, val_main_v77, val_main_v76, val_main_v75]

/-! ## The second normalisation -/

theorem sumB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_v80 (F := Ideal) x0 x1 x2 x3 x4 x5 x6 x7 x8 x9 (ix1 o) = ∑ b : Fin 8, ∑ n : Fin 4096, val_main_v79 (F := Ideal) x0 x1 x2 x3 x4 x5 x6 x7 x8 x9 (ix3 b o n) :=
  sum_outer _ _ _ _ (by show Ideal.ofBits .f32 0x00000000#32 = 0; exact Ideal.ofBits_zero_f32) o

theorem sumB_at' (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_call4_v0 (F := Ideal) x0 x1 x2 x3 x4 x5 x6 x7 x8 x9 (ix1 o) = ∑ b : Fin 8, ∑ n : Fin 4096, val_main_v79 (F := Ideal) x0 x1 x2 x3 x4 x5 x6 x7 x8 x9 (ix3 b o n) :=
  sum_outer _ _ _ _ (by show Ideal.ofBits .f32 0x00000000#32 = 0; exact Ideal.ofBits_zero_f32) o

theorem meanB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_v83 (F := Ideal) x0 x1 x2 x3 x4 x5 x6 x7 x8 x9 (ix3 0 o 0) = meanR (fun b o n => val_main_v79 (F := Ideal) x0 x1 x2 x3 x4 x5 x6 x7 x8 x9 (ix3 b o n)) o := by
  unfold meanR
  rw [← sumB_at]
  pointwise [val_main_v83, val_main_v82, val_main_cst_14, val_main_v81]

theorem meanB_at' (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_call4_v3 (F := Ideal) x0 x1 x2 x3 x4 x5 x6 x7 x8 x9 (ix3 0 o 0) = meanR (fun b o n => val_main_v79 (F := Ideal) x0 x1 x2 x3 x4 x5 x6 x7 x8 x9 (ix3 b o n)) o := by
  unfold meanR
  rw [← sumB_at']
  pointwise [val_main_call4_v3, val_main_call4_v2, val_main_call4_cst_0, val_main_call4_v1]

theorem devB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (b : Fin 8) (o : Fin 256) (n : Fin 4096) : val_main_call4_v6 (F := Ideal) x0 x1 x2 x3 x4 x5 x6 x7 x8 x9 (ix3 b o n)
    = (val_main_v79 (F := Ideal) x0 x1 x2 x3 x4 x5 x6 x7 x8 x9 (ix3 b o n) - meanR (fun b o n => val_main_v79 (F := Ideal) x0 x1 x2 x3 x4 x5 x6 x7 x8 x9 (ix3 b o n)) o)
      * (val_main_v79 (F := Ideal) x0 x1 x2 x3 x4 x5 x6 x7 x8 x9 (ix3 b o n) - meanR (fun b o n => val_main_v79 (F := Ideal) x0 x1 x2 x3 x4 x5 x6 x7 x8 x9 (ix3 b o n)) o) := by
  rw [← meanB_at']
  pointwise [val_main_call4_v6, val_main_call4_v5, val_main_call4_v4]

theorem sqB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_call4_v9 (F := Ideal) x0 x1 x2 x3 x4 x5 x6 x7 x8 x9 (ix1 o) = ∑ b : Fin 8, ∑ n : Fin 4096,
    (val_main_v79 (F := Ideal) x0 x1 x2 x3 x4 x5 x6 x7 x8 x9 (ix3 b o n) - meanR (fun b o n => val_main_v79 (F := Ideal) x0 x1 x2 x3 x4 x5 x6 x7 x8 x9 (ix3 b o n)) o)
      * (val_main_v79 (F := Ideal) x0 x1 x2 x3 x4 x5 x6 x7 x8 x9 (ix3 b o n) - meanR (fun b o n => val_main_v79 (F := Ideal) x0 x1 x2 x3 x4 x5 x6 x7 x8 x9 (ix3 b o n)) o) :=
  (sum_outer _ _ _ _ (by show Ideal.ofBits .f32 0x00000000#32 = 0; exact Ideal.ofBits_zero_f32) o).trans
    (Finset.sum_congr rfl fun b _ => Finset.sum_congr rfl fun n _ => devB_at x0 x1 x2 x3 x4 x5 x6 x7 x8 x9 b o n)

theorem varB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (o : Fin 256) : val_main_v84 (F := Ideal) x0 x1 x2 x3 x4 x5 x6 x7 x8 x9 (ix3 0 o 0) = varR (fun b o n => val_main_v79 (F := Ideal) x0 x1 x2 x3 x4 x5 x6 x7 x8 x9 (ix3 b o n)) o := by
  refine Eq.trans ?_ (congrArg (fun t => Ideal.div t (Ideal.ofBits .f32 0x47000000#32)) (sqB_at x0 x1 x2 x3 x4 x5 x6 x7 x8 x9 o))
  pointwise [val_main_v84, val_main_call4_call0_v1, val_main_call4_call0_v0, val_main_call4_cst_4, val_main_call4_v13, val_main_call4_cst_3, val_main_call4_v12, val_main_call4_v11, val_main_call4_v10, val_main_call4_v8, val_main_call4_cst_1, val_main_call4_v7, val_main_c_15]
  rw [count_eq, if_pos count_pos]

theorem normB_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (x10 x11 : FVec Ideal S256 .f32) (b : Fin 8) (o : Fin 256) (n : Fin 4096) :
    val_main_v98 (F := Ideal) x0 x1 x2 x3 x4 x5 x6 x7 x8 x9 x10 x11 (ix3 b o n) = normR (fun b o n => val_main_v79 (F := Ideal) x0 x1 x2 x3 x4 x5 x6 x7 x8 x9 (ix3 b o n)) x10 x11 b o n := by
  unfold normR
  rw [← meanB_at, ← varB_at]
  pointwise [val_main_v98, val_main_call5_v0, val_main_call5_cst, val_main_v97, val_main_v96, val_main_v95, val_main_v94, val_main_v93, val_main_v92, val_main_v91, val_main_v90, val_main_cst_16, val_main_v89, val_main_v88, val_main_v87, val_main_v86, val_main_v85]

/-- The reference's result at an index. -/
theorem result_at (x0 : FVec Ideal S8x3x4096 .f32) (x1 : FVec Ideal S8x3x1024 .f32) (x2 : FVec Ideal S8x256x4096 .f32) (x3 : FVec Ideal S8x512x1024 .f32) (x4 : FVec Ideal S256x768 .f32) (x5 : FVec Ideal S256 .f32) (x6 x7 : FVec Ideal S256 .f32) (x8 : FVec Ideal S256x256 .f32) (x9 : FVec Ideal S256 .f32) (x10 x11 : FVec Ideal S256 .f32) (b : Fin 8) (o : Fin 256) (n : Fin 4096) :
    val_main_v98 (F := Ideal) x0 x1 x2 x3 x4 x5 x6 x7 x8 x9 x10 x11 (ix3 b o n)
      = normR (fun b o n => (∑ q : Fin 256, normR (fun b o n => layerR x0 x1 x2 x3 x4 b o n + x5 (ix1 o)) x6 x7 b q n * x8 (ix2 o q)) + x9 (ix1 o)) x10 x11 b o n := by
  rw [normB_at]
  simp only [biased_at', normA_at, biased_at]
end Cert.Own
-- ==== Proof.Reals.lean ====
module
public import Idealize.ShloMosaic.Lib.IdealHost
public import Mathlib.Tactic.Ring
public import Mathlib.Tactic.FieldSimp
public import Mathlib.Tactic.Positivity
public import Mathlib.Tactic.Linarith

@[expose] public section

noncomputable section
namespace Cert.Own
open Idealize.ShloMosaic

/-- A real sum, as an extended real, is the sum of the terms as extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division of reals by a real other than zero. -/
theorem coe_div (a : ℝ) {b : ℝ} (hb : b ≠ 0) : Ideal.div ((a : ℝ) : EReal) ((b : ℝ) : EReal) = ((a / b : ℝ) : EReal) := by
  rw [Ideal.div_coe hb, ← EReal.coe_mul]
  congr 1
  ring

section Stats
variable {A C : ℕ} (z : Fin A → Fin C → ℝ) (N : ℝ)

/-- The mean. -/
def mu : ℝ := (∑ a, ∑ c, z a c) / N

/-- The variance. -/
def va : ℝ := (∑ a, ∑ c, (z a c - mu z N) * (z a c - mu z N)) / N

theorem va_nonneg (hN : 0 < N) : 0 ≤ va z N :=
  div_nonneg (Finset.sum_nonneg fun _ _ => Finset.sum_nonneg fun _ _ => mul_self_nonneg _) hN.le

/-- The variance is the mean square less the squared mean. -/
theorem va_eq (hN : 0 < N) (hc : (A : ℝ) * C = N) : (∑ a, ∑ c, z a c * z a c) / N - mu z N * mu z N = va z N := by
  have e : ∑ a, ∑ c, (z a c - mu z N) * (z a c - mu z N)
      = (∑ a, ∑ c, z a c * z a c) - 2 * mu z N * (∑ a, ∑ c, z a c) + N * (mu z N * mu z N) := by
    have h1 : ∀ a c, (z a c - mu z N) * (z a c - mu z N) = z a c * z a c - 2 * mu z N * z a c + mu z N * mu z N := fun a c => by ring
    simp only [h1, Finset.sum_add_distrib, Finset.sum_sub_distrib, ← Finset.mul_sum, Finset.sum_const, Finset.card_univ,
      Fintype.card_fin, nsmul_eq_mul]
    rw [← hc]
    ring
  have m : (∑ a, ∑ c, z a c) = N * mu z N := by
    unfold mu
    field_simp
  unfold va
  rw [e, m]
  field_simp
  ring

/-- A constant added moves the mean by it. -/
theorem mu_shift (β : ℝ) (hN : 0 < N) (hc : (A : ℝ) * C = N) : mu (fun a c => z a c + β) N = mu z N + β := by
  unfold mu
  simp only [Finset.sum_add_distrib, Finset.sum_const, Finset.card_univ, Fintype.card_fin, nsmul_eq_mul]
  rw [← mul_assoc, hc]
  field_simp

/-- A constant added leaves the variance. -/
theorem va_shift (β : ℝ) (hN : 0 < N) (hc : (A : ℝ) * C = N) : va (fun a c => z a c + β) N = va z N := by
  unfold va
  rw [mu_shift z N β hN hc]
  congr 1
  refine Finset.sum_congr rfl fun a _ => Finset.sum_congr rfl fun c _ => ?_
  ring

end Stats
end Cert.Own
-- ==== Proof.Norm.lean ====
module
public import proofs.«01_k».proof.Proof.RefB
public import proofs.«01_k».proof.Proof.HostK
public import proofs.«01_k».proof.Proof.Reals
public import proofs.«01_k».proof.Proof.Consts

@[expose] public section

noncomputable section
namespace Cert.Own
open Idealize.ShloMosaic

theorem count_cast : ((8 : ℕ) : ℝ) * ((4096 : ℕ) : ℝ) = 32768 := by norm_num

/-- A double sum of reals. -/
theorem coe_sum2 {A C : ℕ} (z : Fin A → Fin C → ℝ) : ((∑ a, ∑ c, z a c : ℝ) : EReal) = ∑ a, ∑ c, ((z a c : ℝ) : EReal) := by
  rw [coe_sum]
  exact Finset.sum_congr rfl fun a _ => coe_sum _ _

/-- The real scale of a layer with gain `γ`. -/
def gain (z : Fin 8 → Fin 4096 → ℝ) (γ : ℝ) : ℝ := γ / Real.sqrt (va z 32768 + eps5)

theorem var_pos (z : Fin 8 → Fin 4096 → ℝ) : 0 < va z 32768 + eps5 :=
  add_pos_of_nonneg_of_pos (va_nonneg z 32768 (by norm_num)) eps5_pos

section Kernel
variable (z : Fin 8 → Fin 4096 → ℝ) (γ : ℝ) (st : FVec Ideal ⟨2, ![2, 256]⟩ .f32) (g be : FVec Ideal ⟨1, ![256]⟩ .f32) (o : Fin 256)
  (h0 : st (ix2 0 o) = ∑ b : Fin 8, ∑ n : Fin 4096, ((z b n : ℝ) : EReal))
  (h1 : st (ix2 1 o) = ∑ b : Fin 8, ∑ n : Fin 4096, (((z b n : ℝ) : EReal) * ((z b n : ℝ) : EReal)))
  (hg : g (ix1 o) = ((γ : ℝ) : EReal))

include h0 in
theorem mean_kernel : meanOf st o = ((mu z 32768 : ℝ) : EReal) := by
  unfold meanOf
  rw [h0, word_count, ← coe_sum2, coe_div _ (by norm_num)]
  rfl

include h0 h1 hg in
theorem scale_kernel : scaleOf st g o = ((gain z γ : ℝ) : EReal) := by
  have hq : (∑ b : Fin 8, ∑ n : Fin 4096, (((z b n : ℝ) : EReal) * ((z b n : ℝ) : EReal)))
      = ((∑ b : Fin 8, ∑ n : Fin 4096, z b n * z b n : ℝ) : EReal) := by
    simp only [← EReal.coe_mul]
    exact (coe_sum2 fun b n => z b n * z b n).symm
  have hv := va_eq z 32768 (by norm_num) count_cast
  have hp := var_pos z
  unfold scaleOf
  rw [mean_kernel z st o h0, h1, hq, word_count, word_eps5, coe_div _ (by norm_num), hg, ← EReal.coe_mul, ← EReal.coe_sub, hv,
    ← EReal.coe_add, Ideal.rsqrt_coe, if_neg (not_lt.2 hp.le), if_neg hp.ne', ← EReal.coe_mul]
  rfl

include h0 h1 hg in
/-- The kernel's normalised value. -/
theorem norm_kernel (b : Fin 8) (n : Fin 4096) :
    ((z b n : ℝ) : EReal) * scaleOf st g o + shiftOf st g be o = (((z b n - mu z 32768) * gain z γ : ℝ) : EReal) + be (ix1 o) := by
  unfold shiftOf
  rw [scale_kernel z γ st g o h0 h1 hg, mean_kernel z st o h0, ← EReal.coe_mul, ← EReal.coe_mul, sub_mul, EReal.coe_sub,
    sub_eq_add_neg, sub_eq_add_neg, add_assoc, add_comm (be (ix1 o))]

end Kernel

section Reference
variable (z : Fin 8 → Fin 4096 → ℝ) (β γ : ℝ) (y : Fin 8 → Fin 256 → Fin 4096 → EReal) (g be : FVec Ideal ⟨1, ![256]⟩ .f32) (o : Fin 256)
  (hy : ∀ b n, y b o n = ((z b n + β : ℝ) : EReal)) (hg : g (ix1 o) = ((γ : ℝ) : EReal))

include hy in
theorem mean_reference : meanR y o = ((mu z 32768 + β : ℝ) : EReal) := by
  unfold meanR
  simp only [hy]
  rw [word_count, ← coe_sum2 (fun b n => z b n + β), coe_div _ (by norm_num)]
  exact congrArg _ (mu_shift z 32768 β (by norm_num) count_cast)

include hy in
theorem var_reference : varR y o = ((va z 32768 : ℝ) : EReal) := by
  unfold varR
  rw [mean_reference z β y o hy, ← mu_shift z 32768 β (by norm_num) count_cast, ← va_shift z 32768 β (by norm_num) count_cast]
  simp only [hy, ← EReal.coe_sub, ← EReal.coe_mul]
  rw [word_count, ← coe_sum2 (fun b n => (z b n + β - mu (fun b n => z b n + β) 32768) * (z b n + β - mu (fun b n => z b n + β) 32768)),
    coe_div _ (by norm_num)]
  rfl

include hy hg in
/-- The reference's normalised value. -/
theorem norm_reference (b : Fin 8) (n : Fin 4096) :
    normR y g be b o n = max ((((z b n - mu z 32768) * gain z γ : ℝ) : EReal) + be (ix1 o)) 0 := by
  have hp := var_pos z
  unfold normR
  rw [mean_reference z β y o hy, var_reference z β y o hy, hy, hg, word_eps5, ← EReal.coe_sub, ← EReal.coe_mul, ← EReal.coe_add,
    Ideal.sqrt_coe, if_neg (not_lt.2 hp.le), coe_div _ (Real.sqrt_pos.2 hp).ne']
  congr 3
  unfold gain
  ring

end Reference
end Cert.Own
-- ==== Proof.Layer.lean ====
module
public import proofs.«01_k».proof.Proof.RefA
public import proofs.«01_k».proof.Proof.ArrA
public import proofs.«01_k».proof.Proof.Reals
public import proofs.«01_k».proof.Proof.Consts

@[expose] public section

set_option maxRecDepth 16384

noncomputable section
namespace Cert.Own
open Idealize.ShloMosaic

/-- A sum over 768 columns, split at the 256th. -/
theorem sum_split {M : Type*} [AddCommMonoid M] (f : Fin 768 → M) :
    ∑ q, f q = ∑ q : Fin 256, f ⟨q.val, by omega⟩ + ∑ r : Fin 512, f ⟨256 + r.val, by omega⟩ :=
  Fin.sum_univ_add (a := 256) (b := 512) f

theorem lt_this (k : Fin 3) : k.val < 1024 := by omega
theorem lt_next (k : Fin 3) : k.val + 1 < 1024 := by omega

/-- The four least distances of every target ascend strictly. -/
def Strict (X0 : FVec Ideal ⟨3, ![8, 3, 4096]⟩ .f32) (X1 : FVec Ideal ⟨3, ![8, 3, 1024]⟩ .f32) : Prop :=
  ∀ (b : Fin 8) (n : Fin 4096) (k : Fin 3), distR X0 X1 b n (order (distR X0 X1 b n) ⟨k.val, lt_this k⟩)
    < distR X0 X1 b n (order (distR X0 X1 b n) ⟨k.val + 1, lt_next k⟩)

section
variable (X0 : FVec Ideal ⟨3, ![8, 3, 4096]⟩ .f32) (XT : FVec Ideal ⟨3, ![8, 4096, 3]⟩ .f32) (X1 : FVec Ideal ⟨3, ![8, 3, 1024]⟩ .f32)
  (X2 : FVec Ideal ⟨3, ![8, 256, 4096]⟩ .f32) (X3 : FVec Ideal ⟨3, ![8, 512, 1024]⟩ .f32) (X4 : FVec Ideal ⟨2, ![256, 768]⟩ .f32)
  (r0 : (⟨3, ![8, 3, 4096]⟩ : Shape).Idx → ℝ) (r1 : (⟨3, ![8, 3, 1024]⟩ : Shape).Idx → ℝ) (r2 : (⟨3, ![8, 256, 4096]⟩ : Shape).Idx → ℝ)
  (r3 : (⟨3, ![8, 512, 1024]⟩ : Shape).Idx → ℝ) (r4 : (⟨2, ![256, 768]⟩ : Shape).Idx → ℝ)
  (h0 : ∀ i, X0 i = ((r0 i : ℝ) : EReal)) (h1 : ∀ i, X1 i = ((r1 i : ℝ) : EReal)) (h2 : ∀ i, X2 i = ((r2 i : ℝ) : EReal))
  (h3 : ∀ i, X3 i = ((r3 i : ℝ) : EReal)) (h4 : ∀ i, X4 i = ((r4 i : ℝ) : EReal))
  (hT : ∀ b n c, XT (ix3 b n c) = X0 (ix3 b c n))

/-- The squared distance of target `n` from source `s`. -/
def distance (b : Fin 8) (n : Fin 4096) (s : Fin 1024) : ℝ :=
  ∑ c : Fin 3, (r0 (ix3 b c n) - r1 (ix3 b c s)) * (r0 (ix3 b c n) - r1 (ix3 b c s))

theorem distance_nonneg (b : Fin 8) (n : Fin 4096) (s : Fin 1024) : 0 ≤ distance r0 r1 b n s :=
  Finset.sum_nonneg fun _ _ => mul_self_nonneg _

include h0 h1 in
theorem distR_eq (b : Fin 8) (n : Fin 4096) (s : Fin 1024) : distR X0 X1 b n s = ((distance r0 r1 b n s : ℝ) : EReal) := by
  unfold distR distance
  simp only [h0, h1, word_minus_two, ← EReal.coe_mul, ← coe_sum, ← EReal.coe_add]
  congr 1
  simp only [Fin.sum_univ_three]
  ring

include h0 h1 hT in
theorem distArr_eq (b : Fin 8) (n : Fin 4096) (s : Fin 1024) : distArr XT X1 b n s = ((distance r0 r1 b n s : ℝ) : EReal) := by
  unfold distArr distance
  simp only [hT, h0, h1, word_minus_two, ← EReal.coe_mul, ← coe_sum, ← EReal.coe_add]
  congr 1
  simp only [Fin.sum_univ_three]
  ring

/-- The reciprocal of the `k`-th smallest squared distance, kept from zero. -/
def rho (b : Fin 8) (n : Fin 4096) (k : Fin 3) : ℝ := 1 / (distance r0 r1 b n (near X0 X1 b n k) + eps8)

theorem rho_den (b : Fin 8) (n : Fin 4096) (s : Fin 1024) : 0 < distance r0 r1 b n s + eps8 :=
  add_pos_of_nonneg_of_pos (distance_nonneg r0 r1 b n s) eps8_pos

theorem rho_pos (b : Fin 8) (n : Fin 4096) (k : Fin 3) : 0 < rho X0 X1 r0 r1 b n k :=
  one_div_pos.2 (rho_den r0 r1 b n _)

theorem rho_sum_pos (b : Fin 8) (n : Fin 4096) : 0 < ∑ k, rho X0 X1 r0 r1 b n k :=
  Finset.sum_pos (fun k _ => rho_pos X0 X1 r0 r1 b n k) ⟨0, Finset.mem_univ _⟩

include h0 h1 in
theorem recip_eq (b : Fin 8) (n : Fin 4096) (k : Fin 3) : recip X0 X1 b n k = ((rho X0 X1 r0 r1 b n k : ℝ) : EReal) := by
  unfold recip rho
  rw [distR_eq X0 X1 r0 r1 h0 h1, word_one, word_eps8, ← EReal.coe_add, coe_div _ (rho_den r0 r1 b n _).ne']

include h0 h1 in
theorem share_eq (b : Fin 8) (n : Fin 4096) (k : Fin 3) :
    share X0 X1 b n k = ((rho X0 X1 r0 r1 b n k / ∑ j, rho X0 X1 r0 r1 b n j : ℝ) : EReal) := by
  unfold share
  simp only [recip_eq X0 X1 r0 r1 h0 h1, ← coe_sum]
  exact coe_div _ (rho_sum_pos X0 X1 r0 r1 b n).ne'

/-- The first layer, over the reals. -/
def layer (b : Fin 8) (o : Fin 256) (n : Fin 4096) : ℝ :=
  ∑ q : Fin 256, r4 (ix2 o ⟨q.val, by omega⟩) * r2 (ix3 b q n)
    + ∑ k : Fin 3, (∑ r : Fin 512, r4 (ix2 o ⟨256 + r.val, by omega⟩) * r3 (ix3 b r (near X0 X1 b n k)))
      * (rho X0 X1 r0 r1 b n k / ∑ j, rho X0 X1 r0 r1 b n j)

include h0 h1 h2 h3 h4 in
/-- The reference's first layer is the real one. -/
theorem layerR_eq (b : Fin 8) (o : Fin 256) (n : Fin 4096) :
    layerR X0 X1 X2 X3 X4 b o n = ((layer X0 X1 r0 r1 r2 r3 r4 b o n : ℝ) : EReal) := by
  have hi : ∀ c, interp X0 X1 X3 b n c = ((∑ k : Fin 3, r3 (ix3 b c (near X0 X1 b n k)) * (rho X0 X1 r0 r1 b n k / ∑ j, rho X0 X1 r0 r1 b n j) : ℝ) : EReal) := fun c => by
    unfold interp
    simp only [share_eq X0 X1 r0 r1 h0 h1, h3, ← EReal.coe_mul, ← coe_sum]
  unfold layerR
  rw [sum_split]
  have e1 : ∀ q : Fin 256, (if h : q.val < 256 then X2 (ix3 b ⟨q.val, h⟩ n) else interp X0 X1 X3 b n ⟨q.val - 256, by omega⟩) = X2 (ix3 b q n) :=
    fun q => dif_pos q.isLt
  have e2 : ∀ r : Fin 512, (if h : 256 + r.val < 256 then X2 (ix3 b ⟨256 + r.val, h⟩ n) else interp X0 X1 X3 b n ⟨256 + r.val - 256, by omega⟩)
      = interp X0 X1 X3 b n r := fun r => by
    rw [dif_neg (by omega)]
    exact congrArg _ (Fin.ext (Nat.add_sub_cancel_left _ _))
  refine (congrArg₂ (· + ·) (Finset.sum_congr rfl fun q _ => congrArg (· * X4 (ix2 o ⟨q.val, by omega⟩)) (e1 q))
    (Finset.sum_congr rfl fun r _ => congrArg (· * X4 (ix2 o ⟨256 + r.val, by omega⟩)) (e2 r))).trans ?_
  simp only [hi, h2, h4, ← EReal.coe_mul, ← coe_sum, ← EReal.coe_add]
  refine congrArg _ ?_
  unfold layer
  congr 1
  · exact Finset.sum_congr rfl fun q _ => mul_comm _ _
  · simp only [Finset.sum_mul]
    rw [Finset.sum_comm]
    refine Finset.sum_congr rfl fun k _ => Finset.sum_congr rfl fun r _ => ?_
    ring

variable (hs : Strict X0 X1)

include hs in
/-- Every other source is farther than the three nearest. -/
theorem farther (b : Fin 8) (n : Fin 4096) (s : Fin 1024) (a0 : s ≠ near X0 X1 b n 0) (a1 : s ≠ near X0 X1 b n 1)
    (a2 : s ≠ near X0 X1 b n 2) : distR X0 X1 b n (near X0 X1 b n 2) < distR X0 X1 b n s := by
  obtain ⟨j, rfl⟩ := order_surjective (distR X0 X1 b n) s
  have hj : 3 ≤ j.val := by
    by_contra hn
    have : j.val = 0 ∨ j.val = 1 ∨ j.val = 2 := by omega
    rcases this with h | h | h
    · exact a0 (congrArg _ (Fin.ext h))
    · exact a1 (congrArg _ (Fin.ext h))
    · exact a2 (congrArg _ (Fin.ext h))
  refine lt_of_lt_of_le (hs b n 2) ?_
  rcases Nat.eq_or_lt_of_le hj with h | h
  · exact le_of_eq (congrArg _ (congrArg _ (Fin.ext h)))
  · exact order_le _ _ _ h

include h0 h1 h2 h3 h4 hT hs in
/-- The kernel's first layer is the real one. -/
theorem layerA_eq (b : Fin 8) (o : Fin 256) (n : Fin 4096) :
    layerA XT X1 X2 X3 X4 b o n = ((layer X0 X1 r0 r1 r2 r3 r4 b o n : ℝ) : EReal) := by
  have hd : distArr XT X1 b n = distR X0 X1 b n := funext fun s =>
    (distArr_eq X0 XT X1 r0 r1 h0 h1 hT b n s).trans (distR_eq X0 X1 r0 r1 h0 h1 b n s).symm
  have one : (1 : EReal) = Ideal.ofBits .f32 0x3F800000#32 := Ideal.ofBits_one_f32.symm
  have hr : ∀ k, Ideal.div 1 (distR X0 X1 b n (near X0 X1 b n k) + eps) = ((rho X0 X1 r0 r1 b n k : ℝ) : EReal) := fun k => by
    rw [one]
    exact recip_eq X0 X1 r0 r1 h0 h1 b n k
  have hN : ((1 / ∑ j, rho X0 X1 r0 r1 b n j : ℝ) : EReal) = Ideal.div 1 (Ideal.div 1 (distR X0 X1 b n (near X0 X1 b n 0) + eps)
      + Ideal.div 1 (distR X0 X1 b n (near X0 X1 b n 1) + eps) + Ideal.div 1 (distR X0 X1 b n (near X0 X1 b n 2) + eps)) := by
    rw [hr, hr, hr, ← EReal.coe_add, ← EReal.coe_add, ← Fin.sum_univ_three (fun j => rho X0 X1 r0 r1 b n j), one, word_one,
      coe_div _ (rho_sum_pos X0 X1 r0 r1 b n).ne']
  unfold layerA
  rw [hd, sum_weight (distR X0 X1 b n) (fun s => ∑ r : Fin 512, X4 (ix2 o ⟨256 + r.val, by omega⟩) * X3 (ix3 b r s))
    (near X0 X1 b n 0) (near X0 X1 b n 1) (near X0 X1 b n 2) (hs b n 0) (hs b n 1) (farther X0 X1 hs b n) _ hN, hr, hr, hr]
  simp only [h2, h3, h4, ← EReal.coe_mul, ← coe_sum, ← EReal.coe_add]
  refine congrArg _ ?_
  unfold layer
  simp only [Fin.sum_univ_three, mul_one_div]

end
end Cert.Own
-- ==== Proof.Agree.lean ====
module
public import proofs.«01_k».proof.Proof.Norm
public import proofs.«01_k».proof.Proof.Layer

@[expose] public section

set_option maxRecDepth 16384

noncomputable section
namespace Cert.Own
open Idealize.ShloMosaic Cert.ReferenceIdeal.Read

/-- The kernel's hidden layer, from its first layer `y` and that layer's sums `st`. -/
def hiddenK (y : Fin 8 → Fin 256 → Fin 4096 → EReal) (st : FVec Ideal ⟨2, ![2, 256]⟩ .f32) (g be : FVec Ideal ⟨1, ![256]⟩ .f32)
    (b : Fin 8) (o : Fin 256) (n : Fin 4096) : EReal :=
  max (y b o n * scaleOf st g o + shiftOf st g be o) 0

/-- The kernel's second layer, from its hidden layer. -/
def secondK (X8 : FVec Ideal ⟨2, ![256, 256]⟩ .f32) (h : Fin 8 → Fin 256 → Fin 4096 → EReal) (b : Fin 8) (o : Fin 256) (n : Fin 4096) : EReal :=
  ∑ q : Fin 256, X8 (ix2 o q) * h b q n

/-- The rows of `st` are the sums of `y` and of its squares over batch and targets. -/
def SumsOf (st : FVec Ideal ⟨2, ![2, 256]⟩ .f32) (y : Fin 8 → Fin 256 → Fin 4096 → EReal) : Prop :=
  ∀ o, st (ix2 0 o) = ∑ b : Fin 8, ∑ n : Fin 4096, y b o n ∧ st (ix2 1 o) = ∑ b : Fin 8, ∑ n : Fin 4096, y b o n * y b o n

/-- The kernel's normalisation of real values is the reference's of the same values moved by a bias. -/
theorem norm_agree (z : Fin 8 → Fin 256 → Fin 4096 → ℝ) (β γ : (⟨1, ![256]⟩ : Shape).Idx → ℝ) (yk yr : Fin 8 → Fin 256 → Fin 4096 → EReal)
    (st : FVec Ideal ⟨2, ![2, 256]⟩ .f32) (g be : FVec Ideal ⟨1, ![256]⟩ .f32) (hk : ∀ b o n, yk b o n = ((z b o n : ℝ) : EReal))
    (hr : ∀ b o n, yr b o n = ((z b o n + β (ix1 o) : ℝ) : EReal)) (hs : SumsOf st yk) (hg : ∀ i, g i = ((γ i : ℝ) : EReal))
    (b : Fin 8) (o : Fin 256) (n : Fin 4096) :
    hiddenK yk st g be b o n = max ((((z b o n - mu (fun b n => z b o n) 32768) * gain (fun b n => z b o n) (γ (ix1 o)) : ℝ) : EReal) + be (ix1 o)) 0
      ∧ normR yr g be b o n = hiddenK yk st g be b o n := by
  have s0 := (hs o).1
  have s1 := (hs o).2
  simp only [hk] at s0 s1
  have k : hiddenK yk st g be b o n
      = max ((((z b o n - mu (fun b n => z b o n) 32768) * gain (fun b n => z b o n) (γ (ix1 o)) : ℝ) : EReal) + be (ix1 o)) 0 := by
    unfold hiddenK
    rw [hk]
    exact congrArg (max · 0) (norm_kernel (fun b n => z b o n) (γ (ix1 o)) st g be o s0 s1 (hg _) b n)
  exact ⟨k, (norm_reference (fun b n => z b o n) (β (ix1 o)) (γ (ix1 o)) yr g be o (fun b n => hr b o n) (hg _) b n).trans k.symm⟩

/-- A real moved by an offset below infinity, cut off at zero, is real. -/
theorem real_of_max (a : ℝ) (x : EReal) (h : x ≠ ⊤) : ∃ v : ℝ, max ((a : EReal) + x) 0 = ((v : ℝ) : EReal) := by
  induction x with
  | bot => exact ⟨0, by simp⟩
  | top => exact absurd rfl h
  | coe x =>
    refine ⟨max (a + x) 0, ?_⟩
    rw [← EReal.coe_add, ← EReal.coe_zero]
    exact (EReal.coe_strictMono.monotone.map_max).symm

/-- The kernel's value is the reference's at every element, where the arguments are real (but the first offsets, which may
    be minus infinity, and the last offsets, which may be anything) and the four nearest sources of every target differ in distance. -/
theorem agree (X0 : FVec Ideal ⟨3, ![8, 3, 4096]⟩ .f32) (XT : FVec Ideal ⟨3, ![8, 4096, 3]⟩ .f32) (X1 : FVec Ideal ⟨3, ![8, 3, 1024]⟩ .f32)
    (X2 : FVec Ideal ⟨3, ![8, 256, 4096]⟩ .f32) (X3 : FVec Ideal ⟨3, ![8, 512, 1024]⟩ .f32) (X4 : FVec Ideal ⟨2, ![256, 768]⟩ .f32)
    (X5 X6 X7 : FVec Ideal ⟨1, ![256]⟩ .f32) (X8 : FVec Ideal ⟨2, ![256, 256]⟩ .f32) (X9 X10 X11 : FVec Ideal ⟨1, ![256]⟩ .f32)
    (h0 : ∃ r : _ → ℝ, ∀ i, X0 i = ((r i : ℝ) : EReal)) (h1 : ∃ r : _ → ℝ, ∀ i, X1 i = ((r i : ℝ) : EReal))
    (h2 : ∃ r : _ → ℝ, ∀ i, X2 i = ((r i : ℝ) : EReal)) (h3 : ∃ r : _ → ℝ, ∀ i, X3 i = ((r i : ℝ) : EReal))
    (h4 : ∃ r : _ → ℝ, ∀ i, X4 i = ((r i : ℝ) : EReal)) (h5 : ∃ r : _ → ℝ, ∀ i, X5 i = ((r i : ℝ) : EReal))
    (h6 : ∃ r : _ → ℝ, ∀ i, X6 i = ((r i : ℝ) : EReal)) (h7 : ∀ i, X7 i ≠ (⊤ : EReal))
    (h8 : ∃ r : _ → ℝ, ∀ i, X8 i = ((r i : ℝ) : EReal)) (h9 : ∃ r : _ → ℝ, ∀ i, X9 i = ((r i : ℝ) : EReal))
    (h10 : ∃ r : _ → ℝ, ∀ i, X10 i = ((r i : ℝ) : EReal))
    (hs : Strict X0 X1)
    (hT : ∀ b n c, XT (ix3 b n c) = X0 (ix3 b c n)) (st1 st2 : FVec Ideal ⟨2, ![2, 256]⟩ .f32)
    (hst1 : SumsOf st1 (layerA XT X1 X2 X3 X4)) (hst2 : SumsOf st2 (secondK X8 (hiddenK (layerA XT X1 X2 X3 X4) st1 X6 X7)))
    (b : Fin 8) (o : Fin 256) (n : Fin 4096) :
    hiddenK (secondK X8 (hiddenK (layerA XT X1 X2 X3 X4) st1 X6 X7)) st2 X10 X11 b o n
      = val_main_v98 (F := Ideal) X0 X1 X2 X3 X4 X5 X6 X7 X8 X9 X10 X11 (ix3 b o n) := by
  obtain ⟨r0, h0⟩ := h0
  obtain ⟨r1, h1⟩ := h1
  obtain ⟨r2, h2⟩ := h2
  obtain ⟨r3, h3⟩ := h3
  obtain ⟨r4, h4⟩ := h4
  obtain ⟨r5, h5⟩ := h5
  obtain ⟨r6, h6⟩ := h6
  obtain ⟨r8, h8⟩ := h8
  obtain ⟨r9, h9⟩ := h9
  obtain ⟨r10, h10⟩ := h10
  have first := norm_agree (layer X0 X1 r0 r1 r2 r3 r4) r5 r6 (layerA XT X1 X2 X3 X4)
    (fun b o n => layerR X0 X1 X2 X3 X4 b o n + X5 (ix1 o)) st1 X6 X7
    (layerA_eq X0 XT X1 X2 X3 X4 r0 r1 r2 r3 r4 h0 h1 h2 h3 h4 hT hs)
    (fun b o n => by rw [layerR_eq X0 X1 X2 X3 X4 r0 r1 r2 r3 r4 h0 h1 h2 h3 h4, h5, ← EReal.coe_add]) hst1 h6
  have hid : ∀ b o n, ∃ v : ℝ, hiddenK (layerA XT X1 X2 X3 X4) st1 X6 X7 b o n = ((v : ℝ) : EReal) := fun b o n => by
    rw [(first b o n).1]
    exact real_of_max _ _ (h7 _)
  choose v hv using hid
  have second := norm_agree (fun b o n => ∑ q : Fin 256, r8 (ix2 o q) * v b q n) r9 r10
    (secondK X8 (hiddenK (layerA XT X1 X2 X3 X4) st1 X6 X7))
    (fun b o n => (∑ q : Fin 256, normR (fun b o n => layerR X0 X1 X2 X3 X4 b o n + X5 (ix1 o)) X6 X7 b q n * X8 (ix2 o q)) + X9 (ix1 o))
    st2 X10 X11
    (fun b o n => by
      unfold secondK
      simp only [hv, h8, ← EReal.coe_mul, ← coe_sum])
    (fun b o n => by
      simp only [fun q => (first b q n).2, hv, h8, h9, ← EReal.coe_mul, ← coe_sum, ← EReal.coe_add]
      refine congrArg _ (congrArg (· + r9 (ix1 o)) (Finset.sum_congr rfl fun q _ => mul_comm _ _)))
    hst2 h10
  rw [result_at]
  exact (second b o n).2.symm
end Cert.Own
-- ==== Proof.Chain.lean ====
module
public import proofs.«01_k».proof.Proof.Run
public import proofs.«01_k».proof.Proof.ArrA
public import proofs.«01_k».proof.Proof.ArrB
public import proofs.«01_k».proof.Proof.ArrC
public import proofs.«01_k».proof.Proof.HostK
public import proofs.«01_k».proof.Proof.Agree

@[expose] public section

set_option maxRecDepth 16384

noncomputable section
namespace Cert.Own
open Cert.KernelIdeal Cert.KernelIdeal.Gen
open Idealize.ShloMosaic

variable (m : (ℓ : Loc nD τ sig) → Buf (Elt Ideal) ℓ) (ρ : Dev nD → PrngReg) (c : Dev nD)

/-- The first host stretch's transposed coordinates. -/
def coords : FVec Ideal S8x4096x3 .f32 := W1 m ρ c (Proc.devRef .tc main_v0)
/-- The first layer's sums. -/
def sums1 : FVec Ideal S2x256 .f32 := W2 m ρ c (Proc.devRef .tc main_v1_1)
/-- The second layer's sums. -/
def sums2 : FVec Ideal S2x256 .f32 := W4 m ρ c (Proc.devRef .tc main_v21_1)

/-- The kernel's first layer, from the launch's arguments. -/
def first (b : Fin 8) (o : Fin 256) (n : Fin 4096) : EReal :=
  layerA (coords m ρ c) (m ((c.tc : Thread nD τ).loc main_arg1)) (m ((c.tc : Thread nD τ).loc main_arg2)) (m ((c.tc : Thread nD τ).loc main_arg3))
    (m ((c.tc : Thread nD τ).loc main_arg4)) b o n

/-- The kernel's second layer, from the launch's arguments. -/
def second (b : Fin 8) (o : Fin 256) (n : Fin 4096) : EReal :=
  secondK (m ((c.tc : Thread nD τ).loc main_arg8)) (hiddenK (first m ρ c) (sums1 m ρ c) (m ((c.tc : Thread nD τ).loc main_arg6))
    (m ((c.tc : Thread nD τ).loc main_arg7))) b o n

theorem coords_at (b : Fin 8) (n : Fin 4096) (k : Fin 3) :
    coords m ρ c (ix3 b n k) = (m ((c.tc : Thread nD τ).loc main_arg0) : FVec Ideal S8x3x4096 .f32) (ix3 b k n) :=
  host0_at (W0 m ρ c) b n k

theorem first_eq (b : Fin 8) (o : Fin 256) (n : Fin 4096) : layerAt (V1 m ρ) c b o n = first m ρ c b o n := by
  show layerA (W1 m ρ c (Proc.devRef .tc main_v0)) (W1 m ρ c (Proc.devRef .tc main_arg1)) (W1 m ρ c (Proc.devRef .tc main_arg2))
    (W1 m ρ c (Proc.devRef .tc main_arg3)) (W1 m ρ c (Proc.devRef .tc main_arg4)) b o n = _
  rw [W1_args m ρ c main_arg1 (by simp), W1_args m ρ c main_arg2 (by simp), W1_args m ρ c main_arg3 (by simp), W1_args m ρ c main_arg4 (by simp)]
  rfl

theorem sums1_of : SumsOf (sums1 m ρ c) (first m ρ c) := fun o => by
  have h : 31 < cfg0.N := lt_of_lt_of_eq (by norm_num) N_0.symm
  have e : sums1 m ρ c = statsA (V1 m ρ) c 31 h := (W2_arr m ρ c 6).trans (arrA6 (V1 m ρ) c h)
  rw [e]
  have s0 := sumsA0 (V1 m ρ) c o h
  have s1 := sumsA1 (V1 m ρ) c o h
  exact ⟨s0.trans (Finset.sum_congr rfl fun b _ => Finset.sum_congr rfl fun n _ => first_eq m ρ c b o n),
    s1.trans (Finset.sum_congr rfl fun b _ => Finset.sum_congr rfl fun n _ => congrArg₂ (· * ·) (first_eq m ρ c b o n) (first_eq m ρ c b o n))⟩

/-- The first layer's array, where pass B is entered. -/
theorem first_at (b : Fin 8) (o : Fin 256) (n : Fin 4096) :
    (W3 m ρ c (Proc.devRef .tc main_v1_0) : FVec Ideal S8x256x4096 .f32) (ix3 b o n) = first m ρ c b o n := by
  have e : W3 m ρ c (Proc.devRef .tc main_v1_0) = W2 m ρ c (Proc.devRef .tc main_v1_0) :=
    StableHlo.after_of_forall_not_mem (b := Proc.devRef .tc main_v1_0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals decide))
  have e' : W2 m ρ c (Proc.devRef .tc main_v1_0) = _ := (W2_arr m ρ c 5).trans (arrA5 (V1 m ρ) c)
  rw [e, e']
  exact first_eq m ρ c b o n

theorem second_eq (b : Fin 8) (o : Fin 256) (n : Fin 4096) : layerBt (V3 m ρ) c b o n = second m ρ c b o n := by
  show layerB (W3 m ρ c (Proc.devRef .tc main_v1_0)) (W3 m ρ c (Proc.devRef .tc main_arg8)) (W3 m ρ c (Proc.devRef .tc main_v20)) b o n = _
  unfold layerB second secondK hiddenK
  refine Finset.sum_congr rfl fun q _ => ?_
  have e0 := host1_at0 (W2 m ρ c) q
  have e1 := host1_at1 (W2 m ρ c) q
  rw [W2_args m ρ c main_arg6 (by simp)] at e0 e1
  rw [W2_args m ρ c main_arg7 (by simp)] at e1
  rw [first_at, W3_args m ρ c main_arg8 (by simp)]
  unfold W3
  rw [e0, e1]
  rfl

theorem sums2_of : SumsOf (sums2 m ρ c) (second m ρ c) := fun o => by
  have h : 15 < cfg1.N := lt_of_lt_of_eq (by norm_num) N_1.symm
  have e : sums2 m ρ c = statsB (V3 m ρ) c 15 h := (W4_arr m ρ c 4).trans (arrB4 (V3 m ρ) c h)
  rw [e]
  have s0 := sumsB0 (V3 m ρ) c o h
  have s1 := sumsB1 (V3 m ρ) c o h
  exact ⟨s0.trans (Finset.sum_congr rfl fun b _ => Finset.sum_congr rfl fun n _ => second_eq m ρ c b o n),
    s1.trans (Finset.sum_congr rfl fun b _ => Finset.sum_congr rfl fun n _ => congrArg₂ (· * ·) (second_eq m ρ c b o n) (second_eq m ρ c b o n))⟩

/-- The second layer's array, where pass C is entered. -/
theorem second_at (b : Fin 8) (o : Fin 256) (n : Fin 4096) :
    (W5 m ρ c (Proc.devRef .tc main_v21_0) : FVec Ideal S8x256x4096 .f32) (ix3 b o n) = second m ρ c b o n := by
  have e : W5 m ρ c (Proc.devRef .tc main_v21_0) = W4 m ρ c (Proc.devRef .tc main_v21_0) :=
    StableHlo.after_of_forall_not_mem (b := Proc.devRef .tc main_v21_0) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals decide))
  have e' : W4 m ρ c (Proc.devRef .tc main_v21_0) = _ := (W4_arr m ρ c 3).trans (arrB3 (V3 m ρ) c)
  rw [e, e']
  exact second_eq m ρ c b o n

/-- The kernel's result at an element, from the launch's arguments. -/
theorem kernel_at (b : Fin 8) (o : Fin 256) (n : Fin 4096) :
    (W6 m ρ c (Proc.devRef .tc main_v41) : FVec Ideal S8x256x4096 .f32) (ix3 b o n)
      = hiddenK (second m ρ c) (sums2 m ρ c) (m ((c.tc : Thread nD τ).loc main_arg10)) (m ((c.tc : Thread nD τ).loc main_arg11)) b o n := by
  have e' : W6 m ρ c (Proc.devRef .tc main_v41) = _ := (W6_arr m ρ c 2).trans (arrC2 (V5 m ρ) c)
  rw [e']
  show layerC (W5 m ρ c (Proc.devRef .tc main_v21_0)) (W5 m ρ c (Proc.devRef .tc main_v40)) b o n = _
  unfold layerC hiddenK
  have e0 := host2_at0 (W4 m ρ c) o
  have e1 := host2_at1 (W4 m ρ c) o
  rw [W4_args m ρ c main_arg10 (by simp)] at e0 e1
  rw [W4_args m ρ c main_arg11 (by simp)] at e1
  rw [second_at]
  unfold W5
  rw [e0, e1]
  rfl
end Cert.Own
-- ==== Proof.PreSep.lean ====
module
public import proofs.«01_k».proof.Pre_separated
public import proofs.«01_k».proof.Proof.RefA
public import proofs.«01_k».proof.Proof.Consts

@[expose] public section

set_option maxRecDepth 16384

noncomputable section
namespace Cert.Own
namespace Pre
open Idealize.ShloMosaic Cert.Pre_separated

/-! ## The side conditions of the precondition -/

theorem transposes_S8x3x4096_S8x4096x3_0_2_1 : S8x3x4096.Transposes [0, 2, 1] S8x4096x3 := by decide
theorem transposes_S8x3x1024_S8x1024x3_0_2_1 : S8x3x1024.Transposes [0, 2, 1] S8x1024x3 := by decide
theorem bcast_S_S8x4096x1024 : S_.BroadcastsInDim S8x4096x1024 (![] : Fin 0 → Fin S8x4096x1024.rank) := by decide
theorem reducesTo_S8x4096x3_S8x4096_d2 : S8x4096x3.ReducesTo [2] S8x4096 := by decide
theorem h_S_ : 0 < S_.numel := by decide
theorem bcast_S8x4096_S8x4096x1_0_1 : S8x4096.BroadcastsInDim S8x4096x1 (![0, 1] : Fin 2 → Fin S8x4096x1.rank) := by decide
theorem bcast_S8x4096x1_S8x4096x1024_0_1_2 : S8x4096x1.BroadcastsInDim S8x4096x1024 (![0, 1, 2] : Fin 3 → Fin S8x4096x1024.rank) := by decide
theorem reducesTo_S8x1024x3_S8x1024_d2 : S8x1024x3.ReducesTo [2] S8x1024 := by decide
theorem bcast_S8x1024_S8x1x1024_0_2 : S8x1024.BroadcastsInDim S8x1x1024 (![0, 2] : Fin 2 → Fin S8x1x1024.rank) := by decide
theorem bcast_S8x1x1024_S8x4096x1024_0_1_2 : S8x1x1024.BroadcastsInDim S8x4096x1024 (![0, 1, 2] : Fin 3 → Fin S8x4096x1024.rank) := by decide
theorem slices_S8x4096x1024_S8x4096x4_0_0_0 : S8x4096x1024.Slices ![0, 0, 0] S8x4096x4 := by decide
theorem bcast_S_S8x4096x4 : S_.BroadcastsInDim S8x4096x4 (![] : Fin 0 → Fin S8x4096x4.rank) := by decide
theorem shapeCasts_S8x4096x4_S8x4096x4x1 : S8x4096x4.ShapeCasts S8x4096x4x1 := by decide
theorem bcast_S_S8x4096x4x1 : S_.BroadcastsInDim S8x4096x4x1 (![] : Fin 0 → Fin S8x4096x4x1.rank) := by decide
theorem bcast_S1_S1x1x1x1_3 : S1.BroadcastsInDim S1x1x1x1 (![3] : Fin 1 → Fin S1x1x1x1.rank) := by decide
theorem bcast_S1x1x1x1_S8x4096x4x1_0_1_2_3 : S1x1x1x1.BroadcastsInDim S8x4096x4x1 (![0, 1, 2, 3] : Fin 4 → Fin S8x4096x4x1.rank) := by decide
theorem reducesTo_S8x4096x4x1_S8x4096x4_d3 : S8x4096x4x1.ReducesTo [3] S8x4096x4 := by decide
theorem bcast_S_S8x3x4096 : S_.BroadcastsInDim S8x3x4096 (![] : Fin 0 → Fin S8x3x4096.rank) := by decide
theorem bcast_S_S8x3x1024 : S_.BroadcastsInDim S8x3x1024 (![] : Fin 0 → Fin S8x3x1024.rank) := by decide
theorem bcast_S_S8x256x4096 : S_.BroadcastsInDim S8x256x4096 (![] : Fin 0 → Fin S8x256x4096.rank) := by decide
theorem bcast_S_S8x512x1024 : S_.BroadcastsInDim S8x512x1024 (![] : Fin 0 → Fin S8x512x1024.rank) := by decide
theorem bcast_S_S256x768 : S_.BroadcastsInDim S256x768 (![] : Fin 0 → Fin S256x768.rank) := by decide
theorem bcast_S_S256 : S_.BroadcastsInDim S256 (![] : Fin 0 → Fin S256.rank) := by decide
theorem bcast_S_S256x256 : S_.BroadcastsInDim S256x256 (![] : Fin 0 → Fin S256x256.rank) := by decide
theorem slices_S8x4096x4_S8x4096x3_0_0_0 : S8x4096x4.Slices ![0, 0, 0] S8x4096x3 := by decide
theorem slices_S8x4096x4_S8x4096x3_0_0_1 : S8x4096x4.Slices ![0, 0, 1] S8x4096x3 := by decide
theorem dot_S8x4096x3_S8x1024x3_S8x4096x1024_2_2_1_1_0_0_wf : DotDims.WF S8x4096x3 S8x1024x3 S8x4096x1024 [2] [2] [1] [1] [0] [0] := by decide
theorem gather_S8x4096x1024_S8x4096x4x1_S8x4096x4_n_2_01_01_2_3_111_wf : GatherDims.WF S8x4096x1024 S8x4096x4x1 S8x4096x4 [] [2] [0, 1] [2] [0, 1] 3 ![1, 1, 1] := by decide

/-- The side conditions the precondition states. -/
instance facts : Cert.Pre_separated.Facts where
  transposes_S8x3x4096_S8x4096x3_0_2_1 := transposes_S8x3x4096_S8x4096x3_0_2_1
  transposes_S8x3x1024_S8x1024x3_0_2_1 := transposes_S8x3x1024_S8x1024x3_0_2_1
  bcast_S_S8x4096x1024 := bcast_S_S8x4096x1024
  reducesTo_S8x4096x3_S8x4096_d2 := reducesTo_S8x4096x3_S8x4096_d2
  h_S_ := h_S_
  bcast_S8x4096_S8x4096x1_0_1 := bcast_S8x4096_S8x4096x1_0_1
  bcast_S8x4096x1_S8x4096x1024_0_1_2 := bcast_S8x4096x1_S8x4096x1024_0_1_2
  reducesTo_S8x1024x3_S8x1024_d2 := reducesTo_S8x1024x3_S8x1024_d2
  bcast_S8x1024_S8x1x1024_0_2 := bcast_S8x1024_S8x1x1024_0_2
  bcast_S8x1x1024_S8x4096x1024_0_1_2 := bcast_S8x1x1024_S8x4096x1024_0_1_2
  slices_S8x4096x1024_S8x4096x4_0_0_0 := slices_S8x4096x1024_S8x4096x4_0_0_0
  bcast_S_S8x4096x4 := bcast_S_S8x4096x4
  shapeCasts_S8x4096x4_S8x4096x4x1 := shapeCasts_S8x4096x4_S8x4096x4x1
  bcast_S_S8x4096x4x1 := bcast_S_S8x4096x4x1
  bcast_S1_S1x1x1x1_3 := bcast_S1_S1x1x1x1_3
  bcast_S1x1x1x1_S8x4096x4x1_0_1_2_3 := bcast_S1x1x1x1_S8x4096x4x1_0_1_2_3
  reducesTo_S8x4096x4x1_S8x4096x4_d3 := reducesTo_S8x4096x4x1_S8x4096x4_d3
  bcast_S_S8x3x4096 := bcast_S_S8x3x4096
  bcast_S_S8x3x1024 := bcast_S_S8x3x1024
  bcast_S_S8x256x4096 := bcast_S_S8x256x4096
  bcast_S_S8x512x1024 := bcast_S_S8x512x1024
  bcast_S_S256x768 := bcast_S_S256x768
  bcast_S_S256 := bcast_S_S256
  bcast_S_S256x256 := bcast_S_S256x256
  slices_S8x4096x4_S8x4096x3_0_0_0 := slices_S8x4096x4_S8x4096x3_0_0_0
  slices_S8x4096x4_S8x4096x3_0_0_1 := slices_S8x4096x4_S8x4096x3_0_0_1
  dot_S8x4096x3_S8x1024x3_S8x4096x1024_2_2_1_1_0_0_wf := dot_S8x4096x3_S8x1024x3_S8x4096x1024_2_2_1_1_0_0_wf
  gather_S8x4096x1024_S8x4096x4x1_S8x4096x4_n_2_01_01_2_3_111_wf := gather_S8x4096x1024_S8x4096x4x1_S8x4096x4_n_2_01_01_2_3_111_wf

/-! ## Strictness -/

/-- The precondition's comparison at the extended reals is the order of the keys. -/
theorem comparator_eq (a b : EReal) (i j : BitVec 32) :
    comparator_f32_i32_d2 (F := Ideal) (a, i) (b, j) = BitVec.ofBool (decide (a < b)) := by
  have s : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := fun a => by
    rw [Ideal.ofBits_zero_f32]
    by_cases h : a = 0 <;> simp [Ideal.cmp, Scalar.select, h]
  show Ideal.cmp .olt _ _ = _
  erw [s a, s b]
  simp [Ideal.cmp]

/-- The precondition's sorted positions, read at an index. -/
theorem argsort_at (x : FVec Ideal S8x4096x1024 .f32) (b : Fin 8) (n : Fin 4096) (j : Fin 1024) :
    fn_argsort (F := Ideal) x (ix3 b n j) = BitVec.ofNat 32 (order (fun s => x (ix3 b n s)) j).val := by
  refine Eq.trans ?_ ((sort2_at _ (fun a b i j => comparator_eq a b i j) x (iotaInDim S8x4096x1024 32 2) b n j).trans ?_)
  · rfl
  · rfl

/-- The position array with negative positions wrapped. -/
def wrapped (p : IVec S8x4096x4 32) : IVec S8x4096x4x1 32 :=
  shapeCast S8x4096x4x1 (select (cmpi .slt p (broadcastInDim S8x4096x4 ![] bcast_S_S8x4096x4 (constantI S_ 32 0#32)))
    (addi p (broadcastInDim S8x4096x4 ![] bcast_S_S8x4096x4 (constantI S_ 32 1024#32))) p) shapeCasts_S8x4096x4_S8x4096x4x1

/-- Whether a wrapped position is in range. -/
def inside (q : IVec S8x4096x4x1 32) : IVec S8x4096x4 1 :=
  Host.reduce IntOp.andi (andi (cmpi .sge q (broadcastInDim S8x4096x4x1 ![] bcast_S_S8x4096x4x1 (constantI S_ 32 0#32)))
    (cmpi .sle q (broadcastInDim S8x4096x4x1 ![0, 1, 2, 3] bcast_S1x1x1x1_S8x4096x4x1_0_1_2_3
      (broadcastInDim S1x1x1x1 ![3] bcast_S1_S1x1x1x1_3 (constantI S1 32 1023#32))))) (constantI S_ 1 1#1)
    reducesTo_S8x4096x4x1_S8x4096x4_d3 h_S_

theorem take_eq (x : FVec Ideal S8x4096x1024 .f32) (p : IVec S8x4096x4 32) :
    fn_take_along_axis (F := Ideal) x p = select (inside (wrapped p))
      (Host.gather gather_S8x4096x1024_S8x4096x4x1_S8x4096x4_n_2_01_01_2_3_111 x (wrapped p))
      (broadcastInDim S8x4096x4 ![] bcast_S_S8x4096x4 (constant S_ .f32 0x7FC00000#32)) := rfl

theorem wrapped_at (p : IVec S8x4096x4 32) (b : Fin 8) (n : Fin 4096) (k : Fin 4) (s : Fin 1024)
    (h : p (ix3 b n k) = BitVec.ofNat 32 s.val) : wrapped p (ix4 b n k 0) = BitVec.ofNat 32 s.val := by
  pointwise [wrapped]
  rw [h]
  exact not_wrapped s.isLt _

theorem inside_at (q : IVec S8x4096x4x1 32) (b : Fin 8) (n : Fin 4096) (k : Fin 4) (s : Fin 1024)
    (h : q (ix4 b n k 0) = BitVec.ofNat 32 s.val) : inside q (ix3 b n k) = 1#1 := by
  pointwise [inside]
  rw [Finset.univ_unique, Finset.fold_singleton]
  have e : (default : Fin 1) = 0 := rfl
  rw [e, h]
  exact inrange s.isLt

/-- Taking along the last axis, at a position in range. -/
theorem take_at (x : FVec Ideal S8x4096x1024 .f32) (p : IVec S8x4096x4 32) (b : Fin 8) (n : Fin 4096) (k : Fin 4) (s : Fin 1024)
    (h : p (ix3 b n k) = BitVec.ofNat 32 s.val) : fn_take_along_axis (F := Ideal) x p (ix3 b n k) = x (ix3 b n s) := by
  rw [take_eq]
  have hw := wrapped_at p b n k s h
  show Scalar.select (inside (wrapped p) (ix3 b n k)) _ _ = _
  rw [inside_at _ b n k s hw]
  refine Eq.trans (b := Host.gather gather_S8x4096x1024_S8x4096x4x1_S8x4096x4_n_2_01_01_2_3_111 x (wrapped p) (ix3 b n k)) rfl ?_
  refine (gather_along (A := 8) (B := 4096) (N := 1024) (K := 4) (by norm_num) _ _ _ b n k).trans ?_
  refine congrArg x (congrArg (ix3 b n) (Fin.ext ?_))
  show min (wrapped p (ix4 b n k 0)).toInt.toNat (1024 - 1) = _
  rw [hw]
  exact clamp s.isLt le_rfl

/-- The squared distances as the precondition computes them. -/
def dist (x0 : FVec Ideal S8x3x4096 .f32) (x1 : FVec Ideal S8x3x1024 .f32) : FVec Ideal S8x4096x1024 .f32 :=
  let u : FVec Ideal S8x4096x3 .f32 := transpose S8x4096x3 [0, 2, 1] x0 transposes_S8x3x4096_S8x4096x3_0_2_1
  let v : FVec Ideal S8x1024x3 .f32 := transpose S8x1024x3 [0, 2, 1] x1 transposes_S8x3x1024_S8x1024x3_0_2_1
  addf (addf (mulf (broadcastInDim S8x4096x1024 ![] bcast_S_S8x4096x1024 (constant S_ .f32 0xC0000000#32))
      (Host.dotGeneral dot_S8x4096x3_S8x1024x3_S8x4096x1024_2_2_1_1_0_0 none u v))
    (broadcastInDim S8x4096x1024 ![0, 1, 2] bcast_S8x4096x1_S8x4096x1024_0_1_2 (broadcastInDim S8x4096x1 ![0, 1] bcast_S8x4096_S8x4096x1_0_1
      (Host.reduceAdd (mulf u u) (constant S_ .f32 0x00000000#32) reducesTo_S8x4096x3_S8x4096_d2 h_S_))))
    (broadcastInDim S8x4096x1024 ![0, 1, 2] bcast_S8x1x1024_S8x4096x1024_0_1_2 (broadcastInDim S8x1x1024 ![0, 2] bcast_S8x1024_S8x1x1024_0_2
      (Host.reduceAdd (mulf v v) (constant S_ .f32 0x00000000#32) reducesTo_S8x1024x3_S8x1024_d2 h_S_)))

theorem dist_at (x0 : FVec Ideal S8x3x4096 .f32) (x1 : FVec Ideal S8x3x1024 .f32) (b : Fin 8) (n : Fin 4096) (s : Fin 1024) :
    dist x0 x1 (ix3 b n s) = distR x0 x1 b n s := by
  unfold distR
  pointwise [dist]

/-- The four smallest distances. -/
def nearest (x0 : FVec Ideal S8x3x4096 .f32) (x1 : FVec Ideal S8x3x1024 .f32) : FVec Ideal S8x4096x4 .f32 :=
  fn_take_along_axis (F := Ideal) (dist x0 x1)
    (extractStridedSlice S8x4096x4 ![0, 0, 0] (fn_argsort (F := Ideal) (dist x0 x1)) slices_S8x4096x1024_S8x4096x4_0_0_0)

theorem nearest_at (x0 : FVec Ideal S8x3x4096 .f32) (x1 : FVec Ideal S8x3x1024 .f32) (b : Fin 8) (n : Fin 4096) (k : Fin 4) :
    nearest x0 x1 (ix3 b n k) = distR x0 x1 b n (order (distR x0 x1 b n) ⟨k.val, by omega⟩) := by
  have hd : (fun s => dist x0 x1 (ix3 b n s)) = distR x0 x1 b n := funext fun s => dist_at x0 x1 b n s
  unfold nearest
  refine (take_at (dist x0 x1) _ b n k (order (distR x0 x1 b n) ⟨k.val, by omega⟩) ?_).trans (dist_at x0 x1 b n _)
  refine Eq.trans (b := fn_argsort (F := Ideal) (dist x0 x1) (ix3 b n ⟨k.val, by omega⟩)) (by pointwise []) ?_
  rw [argsort_at, hd]

theorem less_at {s : Shape} (x y : FVec Ideal s .f32) (i : s.Idx) : cmpf .olt x y i = Ideal.cmp .olt (x i) (y i) := rfl

/-- The precondition's strictness, read at an index. -/
theorem strict (x0 : FVec Ideal S8x3x4096 .f32) (x1 : FVec Ideal S8x3x1024 .f32)
    (h : cmpf .olt (extractStridedSlice S8x4096x3 ![0, 0, 0] (nearest x0 x1) slices_S8x4096x4_S8x4096x3_0_0_0)
      (extractStridedSlice S8x4096x3 ![0, 0, 1] (nearest x0 x1) slices_S8x4096x4_S8x4096x3_0_0_1) = (fun _ => 1#1))
    (b : Fin 8) (n : Fin 4096) (k : Fin 3) :
    distR x0 x1 b n (order (distR x0 x1 b n) ⟨k.val, by omega⟩) < distR x0 x1 b n (order (distR x0 x1 b n) ⟨k.val + 1, by omega⟩) := by
  have h' := congrFun h (ix3 b n k)
  have e0 : extractStridedSlice S8x4096x3 ![0, 0, 0] (nearest x0 x1) slices_S8x4096x4_S8x4096x3_0_0_0 (ix3 b n k)
      = distR x0 x1 b n (order (distR x0 x1 b n) ⟨k.val, by omega⟩) :=
    Eq.trans (b := nearest x0 x1 (ix3 b n ⟨k.val, by omega⟩)) (by pointwise []) (nearest_at x0 x1 b n _)
  have e1 : extractStridedSlice S8x4096x3 ![0, 0, 1] (nearest x0 x1) slices_S8x4096x4_S8x4096x3_0_0_1 (ix3 b n k)
      = distR x0 x1 b n (order (distR x0 x1 b n) ⟨k.val + 1, by omega⟩) :=
    Eq.trans (b := nearest x0 x1 (ix3 b n ⟨k.val + 1, by omega⟩)) (by pointwise []; simp only [Nat.add_comm 1 k.val]) (nearest_at x0 x1 b n _)
  have h2 := (less_at _ _ _).symm.trans h'
  rw [e0, e1] at h2
  by_contra hn
  rw [Ideal.cmp] at h2
  simp [hn] at h2

/-! ## Finiteness -/

/-- An array whose absolute values lie below infinity has real entries. -/
theorem real_of {s : Shape} (hb : S_.BroadcastsInDim s (![] : Fin 0 → Fin s.rank)) (x : FVec Ideal s .f32)
    (h : cmpf .olt (Host.absf x) (broadcastInDim s ![] hb (constant S_ .f32 0x7F800000#32)) = (fun _ => 1#1)) :
    ∃ r : s.Idx → ℝ, ∀ i, x i = ((r i : ℝ) : EReal) := by
  refine ⟨fun i => (x i : EReal).toReal, fun i => ?_⟩
  have h' : Ideal.cmp .olt (max (x i : EReal) (-(x i : EReal))) (Ideal.ofBits .f32 0x7F800000#32) = 1#1 := congrFun h i
  have top : Ideal.ofBits .f32 0x7F800000#32 = ⊤ := by simp [Ideal.ofBits, Ideal.ieee]
  rw [top] at h'
  have hlt : max (x i : EReal) (-(x i : EReal)) < ⊤ := by
    by_contra hn
    rw [Ideal.cmp] at h'
    simp [hn] at h'
  refine (EReal.coe_toReal (fun ht => ?_) (fun hbot => ?_)).symm
  · rw [ht] at hlt
    simp at hlt
  · rw [hbot] at hlt
    simp at hlt

/-- An array whose entries lie below infinity has no infinite entry. -/
theorem below_of {s : Shape} (hb : S_.BroadcastsInDim s (![] : Fin 0 → Fin s.rank)) (x : FVec Ideal s .f32)
    (h : cmpf .olt x (broadcastInDim s ![] hb (constant S_ .f32 0x7F800000#32)) = (fun _ => 1#1)) :
    ∀ i, x i ≠ (⊤ : EReal) := fun i ht => by
  have h' : Ideal.cmp .olt (x i : EReal) (Ideal.ofBits .f32 0x7F800000#32) = 1#1 := congrFun h i
  have top : Ideal.ofBits .f32 0x7F800000#32 = ⊤ := by simp [Ideal.ofBits, Ideal.ieee]
  rw [top, ht, Ideal.cmp] at h'
  simp at h'

end Pre
end Cert.Own
-- ==== Proof.Value.lean ====
module
public import proofs.«01_k».proof.Defs
public import proofs.«01_k».proof.Proof.Chain
public import proofs.«01_k».proof.Proof.PreSep
public import proofs.«01_k».proof.Proof.Gen.ReferenceIdeal.Run

/-! # The two programs end with one result

From memories that agree on the arguments and satisfy the precondition, the kernel's last array and the reference's
last array are equal at every element. -/

@[expose] public section

set_option maxRecDepth 16384

noncomputable section
namespace Cert.Own
open Idealize.ShloMosaic Idealize.SL.Sem

/-- The kernel's last array is the reference's value of the launched arguments, where the precondition holds. -/
theorem value_eq (m : (ℓ : Loc Cert.KernelIdeal.nD Cert.KernelIdeal.τ Cert.KernelIdeal.sig) → Buf (Elt Ideal) ℓ)
    (g : Dev Cert.KernelIdeal.nD → PrngReg)
    (hp : @Cert.Pre_KernelIdeal_separated Pre.facts m) (c : Dev Cert.KernelIdeal.nD) :
    (W6 m g c (Proc.devRef .tc Cert.KernelIdeal.main_v41) : FVec Ideal ⟨3, ![8, 256, 4096]⟩ .f32)
      = Cert.ReferenceIdeal.Read.val_main_v98 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  obtain ⟨hs, k0, k1, k2, k3, k4, k5, k6, k8, k9, k10, k7⟩ := hp c
  funext i
  have hi : i = ix3 (i 0) (i 1) (i 2) := funext fun d => by fin_cases d <;> rfl
  rw [hi]
  refine (kernel_at m g c (i 0) (i 1) (i 2)).trans ?_
  exact agree _ (coords m g c) _ _ _ _ _ _ _ _ _ _ _
    (Pre.real_of _ _ k0)
    (Pre.real_of _ _ k1)
    (Pre.real_of _ _ k2)
    (Pre.real_of _ _ k3)
    (Pre.real_of _ _ k4)
    (Pre.real_of _ _ k5)
    (Pre.real_of _ _ k6)
    (Pre.below_of _ _ k7)
    (Pre.real_of _ _ k8)
    (Pre.real_of _ _ k9)
    (Pre.real_of _ _ k10)
    (Pre.strict _ _ hs) (fun b n k => coords_at m g c b n k) (sums1 m g c) (sums2 m g c) (sums1_of m g c) (sums2_of m g c) (i 0) (i 1) (i 2)

/-- The idealized kernel and the idealized reference end with the same result, and leave their arguments as launched. -/
theorem value : @Cert.algebraic_KernelIdeal_ReferenceIdeal_pre_separated Cert.KernelIdeal.Gen.facts Cert.ReferenceIdeal.Gen.facts Pre.facts := by
  intro m g m' g' hp hm
  refine ⟨fun c => W6 m g c (Proc.devRef .tc Cert.KernelIdeal.main_v41), ?_, ?_⟩
  · exact (θ_run Cert.KernelIdeal.defs _ _).mono (fun r h c =>
      ⟨h.1 c _ (mem_uc Cert.KernelIdeal.main_v41 (by decide)),
       (h.1 c _ (mem_uc Cert.KernelIdeal.main_arg0 (by decide))).trans (W6_args m g c Cert.KernelIdeal.main_arg0 (by decide)),
       (h.1 c _ (mem_uc Cert.KernelIdeal.main_arg1 (by decide))).trans (W6_args m g c Cert.KernelIdeal.main_arg1 (by decide)),
       (h.1 c _ (mem_uc Cert.KernelIdeal.main_arg2 (by decide))).trans (W6_args m g c Cert.KernelIdeal.main_arg2 (by decide)),
       (h.1 c _ (mem_uc Cert.KernelIdeal.main_arg3 (by decide))).trans (W6_args m g c Cert.KernelIdeal.main_arg3 (by decide)),
       (h.1 c _ (mem_uc Cert.KernelIdeal.main_arg4 (by decide))).trans (W6_args m g c Cert.KernelIdeal.main_arg4 (by decide)),
       (h.1 c _ (mem_uc Cert.KernelIdeal.main_arg5 (by decide))).trans (W6_args m g c Cert.KernelIdeal.main_arg5 (by decide)),
       (h.1 c _ (mem_uc Cert.KernelIdeal.main_arg6 (by decide))).trans (W6_args m g c Cert.KernelIdeal.main_arg6 (by decide)),
       (h.1 c _ (mem_uc Cert.KernelIdeal.main_arg7 (by decide))).trans (W6_args m g c Cert.KernelIdeal.main_arg7 (by decide)),
       (h.1 c _ (mem_uc Cert.KernelIdeal.main_arg8 (by decide))).trans (W6_args m g c Cert.KernelIdeal.main_arg8 (by decide)),
       (h.1 c _ (mem_uc Cert.KernelIdeal.main_arg9 (by decide))).trans (W6_args m g c Cert.KernelIdeal.main_arg9 (by decide)),
       (h.1 c _ (mem_uc Cert.KernelIdeal.main_arg10 (by decide))).trans (W6_args m g c Cert.KernelIdeal.main_arg10 (by decide)),
       (h.1 c _ (mem_uc Cert.KernelIdeal.main_arg11 (by decide))).trans (W6_args m g c Cert.KernelIdeal.main_arg11 (by decide))⟩) (run_all m g)
  · refine (θ_run Cert.ReferenceIdeal.defs _ _).mono (fun r h c => ⟨?_, (h c).2⟩) (Cert.ReferenceIdeal.Value.run (F := Ideal) m' g')
    refine (h c).1.trans ?_
    refine (Cert.ReferenceIdeal.Read.val_main_v98_eq (F := Ideal) (Idealize.ShloMosaic.StableHlo.launchContents m' c)).trans ?_
    refine Eq.trans ?_ (value_eq m g hp c).symm
    obtain ⟨e0, e1, e2, e3, e4, e5, e6, e7, e8, e9, e10, e11⟩ := hm c
    rw [← e0, ← e1, ← e2, ← e3, ← e4, ← e5, ← e6, ← e7, ← e8, ← e9, ← e10, ← e11]

end Cert.Own
-- ==== Proof.lean ====
module

public import proofs.«01_k».proof.Defs
public import proofs.«01_k».proof.Proof.Frame
public import proofs.«01_k».proof.Proof.Value
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The frame of the idealized reference: its generated run read at the arguments; the program declares no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything claimed: the frames under the precondition are the frames without it, and the value claim is `Cert.Own.value`. -/
theorem claim : Cert.Claim := ⟨Cert.Kernel.Gen.facts, Cert.KernelIdeal.Gen.facts, Cert.ReferenceIdeal.Gen.facts, Cert.Own.Pre.facts, by
  exact ⟨Cert.Own.frame_bits, Cert.Own.frame_ideal, fun m g _ => Cert.Own.frame_ideal m g trivial, frame_reference,
    fun m g _ => frame_reference m g trivial, trivial, Cert.Own.value⟩⟩

end Cert.Proof

end
